-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rows_fit_KernelIdeal [hPre_rows_fit_KernelIdeal : Cert.Pre_rows_fit_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_rows_fit_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_fit_ReferenceIdeal [hPre_rows_fit_ReferenceIdeal : Cert.Pre_rows_fit_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_fit_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_rows_fit_KernelIdeal [hKernelIdeal : Cert.KernelIdeal.Facts] [hPre_rows_fit_KernelIdeal : Cert.Pre_rows_fit_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_fit_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_rows_fit_ReferenceIdeal [hReferenceIdeal : Cert.ReferenceIdeal.Facts] [hPre_rows_fit_ReferenceIdeal : Cert.Pre_rows_fit_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_fit_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_rows_fit_KernelIdeal [hKernelIdeal : Cert.KernelIdeal.Facts] [hReferenceIdeal : Cert.ReferenceIdeal.Facts] [hPre_rows_fit_KernelIdeal : Cert.Pre_rows_fit_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_fit_KernelIdeal m →
    (∀ c : Dev Cert.KernelIdeal.nD,
      m ((c.tc : Thread Cert.KernelIdeal.nD Cert.KernelIdeal.τ).loc Cert.KernelIdeal.main_arg0) = Layout.blockN ⟨2, ![2048, 1024]⟩ ⟨2, ![4096, 1024]⟩ (Layout.meshBlock [2, 2, 4] ![[1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨1, ![2048]⟩ ⟨1, ![4096]⟩ (Layout.meshBlock [2, 2, 4] ![[1]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨3, ![4, 1024, 2048]⟩ ⟨3, ![8, 1024, 2048]⟩ (Layout.meshBlock [2, 2, 4] ![[1], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨3, ![4, 2048, 1024]⟩ ⟨3, ![8, 2048, 1024]⟩ (Layout.meshBlock [2, 2, 4] ![[1], [], []] c) (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = Layout.blockN ⟨2, ![2048, 1024]⟩ ⟨2, ![4096, 1024]⟩ (Layout.meshBlock [2, 2, 4] ![[1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v96) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_rows_fit_KernelIdeal : Cert.Pre_rows_fit_KernelIdeal.Facts) (hPre_rows_fit_ReferenceIdeal : Cert.Pre_rows_fit_ReferenceIdeal.Facts),
    quiescent_Kernel (hKernel := hKernel)
    ∧ quiescent_KernelIdeal (hKernelIdeal := hKernelIdeal)
    ∧ quiescent_KernelIdeal_pre_rows_fit_KernelIdeal (hKernelIdeal := hKernelIdeal) (hPre_rows_fit_KernelIdeal := hPre_rows_fit_KernelIdeal)
    ∧ quiescent_ReferenceIdeal (hReferenceIdeal := hReferenceIdeal)
    ∧ quiescent_ReferenceIdeal_pre_rows_fit_ReferenceIdeal (hReferenceIdeal := hReferenceIdeal) (hPre_rows_fit_ReferenceIdeal := hPre_rows_fit_ReferenceIdeal)
    ∧ preserves_Kernel_KernelIdeal
    ∧ algebraic_KernelIdeal_ReferenceIdeal_pre_rows_fit_KernelIdeal (hKernelIdeal := hKernelIdeal) (hReferenceIdeal := hReferenceIdeal) (hPre_rows_fit_KernelIdeal := hPre_rows_fit_KernelIdeal)
-- ==== Pre_rows_fit_KernelIdeal.lean ====
abbrev S2048x1024 : Shape := ⟨2, ![2048, 1024]⟩
abbrev S2048 : Shape := ⟨1, ![2048]⟩
abbrev S4x1024x2048 : Shape := ⟨3, ![4, 1024, 2048]⟩
abbrev S4x2048x1024 : Shape := ⟨3, ![4, 2048, 1024]⟩
abbrev S_ : Shape := ⟨0, ![]⟩
abbrev S1x2048 : Shape := ⟨2, ![1, 2048]⟩
abbrev S2048x1 : Shape := ⟨2, ![2048, 1]⟩
abbrev S2048x2048 : Shape := ⟨2, ![2048, 2048]⟩

class Facts : Prop where
  bcast_S_S2048 : S_.BroadcastsInDim S2048 (![] : Fin 0 → Fin S2048.rank)
  bcast_S2048_S1x2048_1 : S2048.BroadcastsInDim S1x2048 (![1] : Fin 1 → Fin S1x2048.rank)
  bcast_S2048_S2048x1_0 : S2048.BroadcastsInDim S2048x1 (![0] : Fin 1 → Fin S2048x1.rank)
  bcast_S1x2048_S2048x2048_0_1 : S1x2048.BroadcastsInDim S2048x2048 (![0, 1] : Fin 2 → Fin S2048x2048.rank)
  bcast_S2048x1_S2048x2048_0_1 : S2048x1.BroadcastsInDim S2048x2048 (![0, 1] : Fin 2 → Fin S2048x2048.rank)
  natLt_1_32 : 1 < 32
  reducesTo_S2048x2048_S2048_d1 : S2048x2048.ReducesTo [1] S2048
  h_S_ : 0 < S_.numel

variable [Facts]

def fn_part4 {F : FTy → Type} [FloatOps F] (main_v65 : IVec S2048 32) (main_v75 : IVec S2048 1) (main_v77 : IVec S2048 32) : IVec S2048 1 :=
  let main_v78 : IVec S2048 1 := cmpi .slt main_v65 main_v77
  let main_v79 : IVec S2048 1 := andi main_v75 main_v78
  main_v79

def fn_part3 {F : FTy → Type} [FloatOps F] (main_v42 : IVec S2048 1) (main_v46 : IVec S2048 32) (main_v51 : IVec S2048x2048 1) (main_v56 : IVec S2048x2048 1) (main_v58 : IVec S2048x1 32) (main_v59 : IVec S2048x2048 32) : IVec S2048 1 :=
  let main_v60 : IVec S2048x2048 32 := broadcastInDim S2048x2048 ![0, 1] bcast_S2048x1_S2048x2048_0_1 main_v58
  let main_v61 : IVec S2048x2048 1 := cmpi .slt main_v59 main_v60
  let main_v62 : IVec S2048x2048 1 := andi main_v56 main_v61
  let main_v63 : IVec S2048x2048 1 := ori main_v51 main_v62
  let main_v64 : IVec S2048x2048 32 := (extui 32 · natLt_1_32) main_v63
  let main_c_11 : IVec S_ 32 := constantI S_ 32 0#32
  let main_v65 : IVec S2048 32 := (fun x v => Host.reduce IntOp.addi x v reducesTo_S2048x2048_S2048_d1 h_S_) main_v64 main_c_11
  let main_c_12 : IVec S_ 32 := constantI S_ 32 256#32
  let main_v66 : IVec S2048 32 := broadcastInDim S2048 ![] bcast_S_S2048 main_c_12
  let main_v67 : IVec S2048 32 := muli main_v46 main_v66
  let main_c_13 : IVec S_ 32 := constantI S_ 32 128#32
  let main_v68 : IVec S2048 32 := broadcastInDim S2048 ![] bcast_S_S2048 main_c_13
  let main_v69 : IVec S2048 32 := subi main_v67 main_v68
  let main_c_14 : IVec S_ 32 := constantI S_ 32 0#32
  let main_v70 : IVec S2048 32 := broadcastInDim S2048 ![] bcast_S_S2048 main_c_14
  let main_v71 : IVec S2048 32 := maxsi main_v69 main_v70
  let main_c_15 : IVec S_ 32 := constantI S_ 32 1536#32
  let main_v72 : IVec S2048 32 := broadcastInDim S2048 ![] bcast_S_S2048 main_c_15
  let main_v73 : IVec S2048 32 := minsi main_v71 main_v72
  let main_v74 : IVec S2048 1 := cmpi .sle main_v73 main_v65
  let main_v75 : IVec S2048 1 := andi main_v42 main_v74
  let main_c_16 : IVec S_ 32 := constantI S_ 32 512#32
  let main_v76 : IVec S2048 32 := broadcastInDim S2048 ![] bcast_S_S2048 main_c_16
  let main_v77 : IVec S2048 32 := addi main_v73 main_v76
  fn_part4 (F := F) main_v65 main_v75 main_v77

def fn_part2 {F : FTy → Type} [FloatOps F] (main_arg1 : IVec S2048 32) (main_v0 : IVec S2048 32) (main_v28 : IVec S2048 32) (main_v36 : IVec S2048 32) (main_v38 : IVec S2048 1) : IVec S2048 1 :=
  let main_c_8 : IVec S_ 32 := constantI S_ 32 512#32
  let main_v39 : IVec S2048 32 := broadcastInDim S2048 ![] bcast_S_S2048 main_c_8
  let main_v40 : IVec S2048 32 := addi main_v36 main_v39
  let main_v41 : IVec S2048 1 := cmpi .slt main_v28 main_v40
  let main_v42 : IVec S2048 1 := andi main_v38 main_v41
  let main_c_9 : IVec S_ 32 := constantI S_ 32 4#32
  let main_v43 : IVec S2048 32 := broadcastInDim S2048 ![] bcast_S_S2048 main_c_9
  let main_v44 : IVec S2048 32 := addi main_arg1 main_v43
  let main_c_10 : IVec S_ 32 := constantI S_ 32 7#32
  let main_v45 : IVec S2048 32 := broadcastInDim S2048 ![] bcast_S_S2048 main_c_10
  let main_v46 : IVec S2048 32 := andi main_v44 main_v45
  let main_v47 : IVec S1x2048 32 := broadcastInDim S1x2048 ![1] bcast_S2048_S1x2048_1 main_v46
  let main_v48 : IVec S2048x1 32 := broadcastInDim S2048x1 ![0] bcast_S2048_S2048x1_0 main_v46
  let main_v49 : IVec S2048x2048 32 := broadcastInDim S2048x2048 ![0, 1] bcast_S1x2048_S2048x2048_0_1 main_v47
  let main_v50 : IVec S2048x2048 32 := broadcastInDim S2048x2048 ![0, 1] bcast_S2048x1_S2048x2048_0_1 main_v48
  let main_v51 : IVec S2048x2048 1 := cmpi .slt main_v49 main_v50
  let main_v52 : IVec S1x2048 32 := broadcastInDim S1x2048 ![1] bcast_S2048_S1x2048_1 main_v46
  let main_v53 : IVec S2048x1 32 := broadcastInDim S2048x1 ![0] bcast_S2048_S2048x1_0 main_v46
  let main_v54 : IVec S2048x2048 32 := broadcastInDim S2048x2048 ![0, 1] bcast_S1x2048_S2048x2048_0_1 main_v52
  let main_v55 : IVec S2048x2048 32 := broadcastInDim S2048x2048 ![0, 1] bcast_S2048x1_S2048x2048_0_1 main_v53
  let main_v56 : IVec S2048x2048 1 := cmpi .eq main_v54 main_v55
  let main_v57 : IVec S1x2048 32 := broadcastInDim S1x2048 ![1] bcast_S2048_S1x2048_1 main_v0
  let main_v58 : IVec S2048x1 32 := broadcastInDim S2048x1 ![0] bcast_S2048_S2048x1_0 main_v0
  let main_v59 : IVec S2048x2048 32 := broadcastInDim S2048x2048 ![0, 1] bcast_S1x2048_S2048x2048_0_1 main_v57
  fn_part3 (F := F) main_v42 main_v46 main_v51 main_v56 main_v58 main_v59

def fn_part1 {F : FTy → Type} [FloatOps F] (main_arg1 : IVec S2048 32) (main_v0 : IVec S2048 32) (main_v5 : IVec S2048 1) (main_v9 : IVec S2048 32) (main_v14 : IVec S2048x2048 1) (main_v19 : IVec S2048x2048 1) : IVec S2048 1 :=
  let main_v20 : IVec S1x2048 32 := broadcastInDim S1x2048 ![1] bcast_S2048_S1x2048_1 main_v0
  let main_v21 : IVec S2048x1 32 := broadcastInDim S2048x1 ![0] bcast_S2048_S2048x1_0 main_v0
  let main_v22 : IVec S2048x2048 32 := broadcastInDim S2048x2048 ![0, 1] bcast_S1x2048_S2048x2048_0_1 main_v20
  let main_v23 : IVec S2048x2048 32 := broadcastInDim S2048x2048 ![0, 1] bcast_S2048x1_S2048x2048_0_1 main_v21
  let main_v24 : IVec S2048x2048 1 := cmpi .slt main_v22 main_v23
  let main_v25 : IVec S2048x2048 1 := andi main_v19 main_v24
  let main_v26 : IVec S2048x2048 1 := ori main_v14 main_v25
  let main_v27 : IVec S2048x2048 32 := (extui 32 · natLt_1_32) main_v26
  let main_c_3 : IVec S_ 32 := constantI S_ 32 0#32
  let main_v28 : IVec S2048 32 := (fun x v => Host.reduce IntOp.addi x v reducesTo_S2048x2048_S2048_d1 h_S_) main_v27 main_c_3
  let main_c_4 : IVec S_ 32 := constantI S_ 32 256#32
  let main_v29 : IVec S2048 32 := broadcastInDim S2048 ![] bcast_S_S2048 main_c_4
  let main_v30 : IVec S2048 32 := muli main_v9 main_v29
  let main_c_5 : IVec S_ 32 := constantI S_ 32 128#32
  let main_v31 : IVec S2048 32 := broadcastInDim S2048 ![] bcast_S_S2048 main_c_5
  let main_v32 : IVec S2048 32 := subi main_v30 main_v31
  let main_c_6 : IVec S_ 32 := constantI S_ 32 0#32
  let main_v33 : IVec S2048 32 := broadcastInDim S2048 ![] bcast_S_S2048 main_c_6
  let main_v34 : IVec S2048 32 := maxsi main_v32 main_v33
  let main_c_7 : IVec S_ 32 := constantI S_ 32 1536#32
  let main_v35 : IVec S2048 32 := broadcastInDim S2048 ![] bcast_S_S2048 main_c_7
  let main_v36 : IVec S2048 32 := minsi main_v34 main_v35
  let main_v37 : IVec S2048 1 := cmpi .sle main_v36 main_v28
  let main_v38 : IVec S2048 1 := andi main_v5 main_v37
  fn_part2 (F := F) main_arg1 main_v0 main_v28 main_v36 main_v38

def fn {F : FTy → Type} [FloatOps F] (main_arg0 : FVec F S2048x1024 .f32) (main_arg1 : IVec S2048 32) (main_arg2 : FVec F S4x1024x2048 .f32) (main_arg3 : FVec F S4x2048x1024 .f32) : IVec S2048 1 :=
  let main_v0 : IVec S2048 32 := iotaInDim S2048 32 0
  let main_c : IVec S_ 32 := constantI S_ 32 0#32
  let main_v1 : IVec S2048 32 := broadcastInDim S2048 ![] bcast_S_S2048 main_c
  let main_v2 : IVec S2048 1 := cmpi .sge main_arg1 main_v1
  let main_c_0 : IVec S_ 32 := constantI S_ 32 8#32
  let main_v3 : IVec S2048 32 := broadcastInDim S2048 ![] bcast_S_S2048 main_c_0
  let main_v4 : IVec S2048 1 := cmpi .slt main_arg1 main_v3
  let main_v5 : IVec S2048 1 := andi main_v2 main_v4
  let main_c_1 : IVec S_ 32 := constantI S_ 32 0#32
  let main_v6 : IVec S2048 32 := broadcastInDim S2048 ![] bcast_S_S2048 main_c_1
  let main_v7 : IVec S2048 32 := addi main_arg1 main_v6
  let main_c_2 : IVec S_ 32 := constantI S_ 32 7#32
  let main_v8 : IVec S2048 32 := broadcastInDim S2048 ![] bcast_S_S2048 main_c_2
  let main_v9 : IVec S2048 32 := andi main_v7 main_v8
  let main_v10 : IVec S1x2048 32 := broadcastInDim S1x2048 ![1] bcast_S2048_S1x2048_1 main_v9
  let main_v11 : IVec S2048x1 32 := broadcastInDim S2048x1 ![0] bcast_S2048_S2048x1_0 main_v9
  let main_v12 : IVec S2048x2048 32 := broadcastInDim S2048x2048 ![0, 1] bcast_S1x2048_S2048x2048_0_1 main_v10
  let main_v13 : IVec S2048x2048 32 := broadcastInDim S2048x2048 ![0, 1] bcast_S2048x1_S2048x2048_0_1 main_v11
  let main_v14 : IVec S2048x2048 1 := cmpi .slt main_v12 main_v13
  let main_v15 : IVec S1x2048 32 := broadcastInDim S1x2048 ![1] bcast_S2048_S1x2048_1 main_v9
  let main_v16 : IVec S2048x1 32 := broadcastInDim S2048x1 ![0] bcast_S2048_S2048x1_0 main_v9
  let main_v17 : IVec S2048x2048 32 := broadcastInDim S2048x2048 ![0, 1] bcast_S1x2048_S2048x2048_0_1 main_v15
  let main_v18 : IVec S2048x2048 32 := broadcastInDim S2048x2048 ![0, 1] bcast_S2048x1_S2048x2048_0_1 main_v16
  let main_v19 : IVec S2048x2048 1 := cmpi .eq main_v17 main_v18
  fn_part1 (F := F) main_arg1 main_v0 main_v5 main_v9 main_v14 main_v19
-- ==== Pre_rows_fit_ReferenceIdeal.lean ====
abbrev S4096x1024 : Shape := ⟨2, ![4096, 1024]⟩
abbrev S4096 : Shape := ⟨1, ![4096]⟩
abbrev S8x1024x2048 : Shape := ⟨3, ![8, 1024, 2048]⟩
abbrev S8x2048x1024 : Shape := ⟨3, ![8, 2048, 1024]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩

class Facts : Prop where
  bcast_S_S4096 : S_.BroadcastsInDim S4096 (![] : Fin 0 → Fin S4096.rank)
  bcast_S4096_S1x4096_1 : S4096.BroadcastsInDim S1x4096 (![1] : Fin 1 → Fin S1x4096.rank)
  bcast_S4096_S4096x1_0 : S4096.BroadcastsInDim S4096x1 (![0] : Fin 1 → Fin S4096x1.rank)
  bcast_S1x4096_S4096x4096_0_1 : S1x4096.BroadcastsInDim S4096x4096 (![0, 1] : Fin 2 → Fin S4096x4096.rank)
  bcast_S4096x1_S4096x4096_0_1 : S4096x1.BroadcastsInDim S4096x4096 (![0, 1] : Fin 2 → Fin S4096x4096.rank)
  natLt_1_32 : 1 < 32
  reducesTo_S4096x4096_S4096_d1 : S4096x4096.ReducesTo [1] S4096
  h_S_ : 0 < S_.numel

variable [Facts]

def fn_part4 {F : FTy → Type} [FloatOps F] (main_v65 : IVec S4096 32) (main_v75 : IVec S4096 1) (main_v77 : IVec S4096 32) : IVec S4096 1 :=
  let main_v78 : IVec S4096 1 := cmpi .slt main_v65 main_v77
  let main_v79 : IVec S4096 1 := andi main_v75 main_v78
  main_v79

def fn_part3 {F : FTy → Type} [FloatOps F] (main_v42 : IVec S4096 1) (main_v46 : IVec S4096 32) (main_v51 : IVec S4096x4096 1) (main_v56 : IVec S4096x4096 1) (main_v58 : IVec S4096x1 32) (main_v59 : IVec S4096x4096 32) : IVec S4096 1 :=
  let main_v60 : IVec S4096x4096 32 := broadcastInDim S4096x4096 ![0, 1] bcast_S4096x1_S4096x4096_0_1 main_v58
  let main_v61 : IVec S4096x4096 1 := cmpi .slt main_v59 main_v60
  let main_v62 : IVec S4096x4096 1 := andi main_v56 main_v61
  let main_v63 : IVec S4096x4096 1 := ori main_v51 main_v62
  let main_v64 : IVec S4096x4096 32 := (extui 32 · natLt_1_32) main_v63
  let main_c_11 : IVec S_ 32 := constantI S_ 32 0#32
  let main_v65 : IVec S4096 32 := (fun x v => Host.reduce IntOp.addi x v reducesTo_S4096x4096_S4096_d1 h_S_) main_v64 main_c_11
  let main_c_12 : IVec S_ 32 := constantI S_ 32 512#32
  let main_v66 : IVec S4096 32 := broadcastInDim S4096 ![] bcast_S_S4096 main_c_12
  let main_v67 : IVec S4096 32 := muli main_v46 main_v66
  let main_c_13 : IVec S_ 32 := constantI S_ 32 256#32
  let main_v68 : IVec S4096 32 := broadcastInDim S4096 ![] bcast_S_S4096 main_c_13
  let main_v69 : IVec S4096 32 := subi main_v67 main_v68
  let main_c_14 : IVec S_ 32 := constantI S_ 32 0#32
  let main_v70 : IVec S4096 32 := broadcastInDim S4096 ![] bcast_S_S4096 main_c_14
  let main_v71 : IVec S4096 32 := maxsi main_v69 main_v70
  let main_c_15 : IVec S_ 32 := constantI S_ 32 3072#32
  let main_v72 : IVec S4096 32 := broadcastInDim S4096 ![] bcast_S_S4096 main_c_15
  let main_v73 : IVec S4096 32 := minsi main_v71 main_v72
  let main_v74 : IVec S4096 1 := cmpi .sle main_v73 main_v65
  let main_v75 : IVec S4096 1 := andi main_v42 main_v74
  let main_c_16 : IVec S_ 32 := constantI S_ 32 1024#32
  let main_v76 : IVec S4096 32 := broadcastInDim S4096 ![] bcast_S_S4096 main_c_16
  let main_v77 : IVec S4096 32 := addi main_v73 main_v76
  fn_part4 (F := F) main_v65 main_v75 main_v77

def fn_part2 {F : FTy → Type} [FloatOps F] (main_arg1 : IVec S4096 32) (main_v0 : IVec S4096 32) (main_v28 : IVec S4096 32) (main_v36 : IVec S4096 32) (main_v38 : IVec S4096 1) : IVec S4096 1 :=
  let main_c_8 : IVec S_ 32 := constantI S_ 32 1024#32
  let main_v39 : IVec S4096 32 := broadcastInDim S4096 ![] bcast_S_S4096 main_c_8
  let main_v40 : IVec S4096 32 := addi main_v36 main_v39
  let main_v41 : IVec S4096 1 := cmpi .slt main_v28 main_v40
  let main_v42 : IVec S4096 1 := andi main_v38 main_v41
  let main_c_9 : IVec S_ 32 := constantI S_ 32 4#32
  let main_v43 : IVec S4096 32 := broadcastInDim S4096 ![] bcast_S_S4096 main_c_9
  let main_v44 : IVec S4096 32 := addi main_arg1 main_v43
  let main_c_10 : IVec S_ 32 := constantI S_ 32 7#32
  let main_v45 : IVec S4096 32 := broadcastInDim S4096 ![] bcast_S_S4096 main_c_10
  let main_v46 : IVec S4096 32 := andi main_v44 main_v45
  let main_v47 : IVec S1x4096 32 := broadcastInDim S1x4096 ![1] bcast_S4096_S1x4096_1 main_v46
  let main_v48 : IVec S4096x1 32 := broadcastInDim S4096x1 ![0] bcast_S4096_S4096x1_0 main_v46
  let main_v49 : IVec S4096x4096 32 := broadcastInDim S4096x4096 ![0, 1] bcast_S1x4096_S4096x4096_0_1 main_v47
  let main_v50 : IVec S4096x4096 32 := broadcastInDim S4096x4096 ![0, 1] bcast_S4096x1_S4096x4096_0_1 main_v48
  let main_v51 : IVec S4096x4096 1 := cmpi .slt main_v49 main_v50
  let main_v52 : IVec S1x4096 32 := broadcastInDim S1x4096 ![1] bcast_S4096_S1x4096_1 main_v46
  let main_v53 : IVec S4096x1 32 := broadcastInDim S4096x1 ![0] bcast_S4096_S4096x1_0 main_v46
  let main_v54 : IVec S4096x4096 32 := broadcastInDim S4096x4096 ![0, 1] bcast_S1x4096_S4096x4096_0_1 main_v52
  let main_v55 : IVec S4096x4096 32 := broadcastInDim S4096x4096 ![0, 1] bcast_S4096x1_S4096x4096_0_1 main_v53
  let main_v56 : IVec S4096x4096 1 := cmpi .eq main_v54 main_v55
  let main_v57 : IVec S1x4096 32 := broadcastInDim S1x4096 ![1] bcast_S4096_S1x4096_1 main_v0
  let main_v58 : IVec S4096x1 32 := broadcastInDim S4096x1 ![0] bcast_S4096_S4096x1_0 main_v0
  let main_v59 : IVec S4096x4096 32 := broadcastInDim S4096x4096 ![0, 1] bcast_S1x4096_S4096x4096_0_1 main_v57
  fn_part3 (F := F) main_v42 main_v46 main_v51 main_v56 main_v58 main_v59

def fn_part1 {F : FTy → Type} [FloatOps F] (main_arg1 : IVec S4096 32) (main_v0 : IVec S4096 32) (main_v5 : IVec S4096 1) (main_v9 : IVec S4096 32) (main_v14 : IVec S4096x4096 1) (main_v19 : IVec S4096x4096 1) : IVec S4096 1 :=
  let main_v20 : IVec S1x4096 32 := broadcastInDim S1x4096 ![1] bcast_S4096_S1x4096_1 main_v0
  let main_v21 : IVec S4096x1 32 := broadcastInDim S4096x1 ![0] bcast_S4096_S4096x1_0 main_v0
  let main_v22 : IVec S4096x4096 32 := broadcastInDim S4096x4096 ![0, 1] bcast_S1x4096_S4096x4096_0_1 main_v20
  let main_v23 : IVec S4096x4096 32 := broadcastInDim S4096x4096 ![0, 1] bcast_S4096x1_S4096x4096_0_1 main_v21
  let main_v24 : IVec S4096x4096 1 := cmpi .slt main_v22 main_v23
  let main_v25 : IVec S4096x4096 1 := andi main_v19 main_v24
  let main_v26 : IVec S4096x4096 1 := ori main_v14 main_v25
  let main_v27 : IVec S4096x4096 32 := (extui 32 · natLt_1_32) main_v26
  let main_c_3 : IVec S_ 32 := constantI S_ 32 0#32
  let main_v28 : IVec S4096 32 := (fun x v => Host.reduce IntOp.addi x v reducesTo_S4096x4096_S4096_d1 h_S_) main_v27 main_c_3
  let main_c_4 : IVec S_ 32 := constantI S_ 32 512#32
  let main_v29 : IVec S4096 32 := broadcastInDim S4096 ![] bcast_S_S4096 main_c_4
  let main_v30 : IVec S4096 32 := muli main_v9 main_v29
  let main_c_5 : IVec S_ 32 := constantI S_ 32 256#32
  let main_v31 : IVec S4096 32 := broadcastInDim S4096 ![] bcast_S_S4096 main_c_5
  let main_v32 : IVec S4096 32 := subi main_v30 main_v31
  let main_c_6 : IVec S_ 32 := constantI S_ 32 0#32
  let main_v33 : IVec S4096 32 := broadcastInDim S4096 ![] bcast_S_S4096 main_c_6
  let main_v34 : IVec S4096 32 := maxsi main_v32 main_v33
  let main_c_7 : IVec S_ 32 := constantI S_ 32 3072#32
  let main_v35 : IVec S4096 32 := broadcastInDim S4096 ![] bcast_S_S4096 main_c_7
  let main_v36 : IVec S4096 32 := minsi main_v34 main_v35
  let main_v37 : IVec S4096 1 := cmpi .sle main_v36 main_v28
  let main_v38 : IVec S4096 1 := andi main_v5 main_v37
  fn_part2 (F := F) main_arg1 main_v0 main_v28 main_v36 main_v38

def fn {F : FTy → Type} [FloatOps F] (main_arg0 : FVec F S4096x1024 .f32) (main_arg1 : IVec S4096 32) (main_arg2 : FVec F S8x1024x2048 .f32) (main_arg3 : FVec F S8x2048x1024 .f32) : IVec S4096 1 :=
  let main_v0 : IVec S4096 32 := iotaInDim S4096 32 0
  let main_c : IVec S_ 32 := constantI S_ 32 0#32
  let main_v1 : IVec S4096 32 := broadcastInDim S4096 ![] bcast_S_S4096 main_c
  let main_v2 : IVec S4096 1 := cmpi .sge main_arg1 main_v1
  let main_c_0 : IVec S_ 32 := constantI S_ 32 8#32
  let main_v3 : IVec S4096 32 := broadcastInDim S4096 ![] bcast_S_S4096 main_c_0
  let main_v4 : IVec S4096 1 := cmpi .slt main_arg1 main_v3
  let main_v5 : IVec S4096 1 := andi main_v2 main_v4
  let main_c_1 : IVec S_ 32 := constantI S_ 32 0#32
  let main_v6 : IVec S4096 32 := broadcastInDim S4096 ![] bcast_S_S4096 main_c_1
  let main_v7 : IVec S4096 32 := addi main_arg1 main_v6
  let main_c_2 : IVec S_ 32 := constantI S_ 32 7#32
  let main_v8 : IVec S4096 32 := broadcastInDim S4096 ![] bcast_S_S4096 main_c_2
  let main_v9 : IVec S4096 32 := andi main_v7 main_v8
  let main_v10 : IVec S1x4096 32 := broadcastInDim S1x4096 ![1] bcast_S4096_S1x4096_1 main_v9
  let main_v11 : IVec S4096x1 32 := broadcastInDim S4096x1 ![0] bcast_S4096_S4096x1_0 main_v9
  let main_v12 : IVec S4096x4096 32 := broadcastInDim S4096x4096 ![0, 1] bcast_S1x4096_S4096x4096_0_1 main_v10
  let main_v13 : IVec S4096x4096 32 := broadcastInDim S4096x4096 ![0, 1] bcast_S4096x1_S4096x4096_0_1 main_v11
  let main_v14 : IVec S4096x4096 1 := cmpi .slt main_v12 main_v13
  let main_v15 : IVec S1x4096 32 := broadcastInDim S1x4096 ![1] bcast_S4096_S1x4096_1 main_v9
  let main_v16 : IVec S4096x1 32 := broadcastInDim S4096x1 ![0] bcast_S4096_S4096x1_0 main_v9
  let main_v17 : IVec S4096x4096 32 := broadcastInDim S4096x4096 ![0, 1] bcast_S1x4096_S4096x4096_0_1 main_v15
  let main_v18 : IVec S4096x4096 32 := broadcastInDim S4096x4096 ![0, 1] bcast_S4096x1_S4096x4096_0_1 main_v16
  let main_v19 : IVec S4096x4096 1 := cmpi .eq main_v17 main_v18
  fn_part1 (F := F) main_arg1 main_v0 main_v5 main_v9 main_v14 main_v19
-- ==== Kernel.lean ====
abbrev S2048x1024 : Shape := ⟨2, ![2048, 1024]⟩
abbrev S2048 : Shape := ⟨1, ![2048]⟩
abbrev S4x1024x2048 : Shape := ⟨3, ![4, 1024, 2048]⟩
abbrev S4x2048x1024 : Shape := ⟨3, ![4, 2048, 1024]⟩
abbrev S_ : Shape := ⟨0, ![]⟩
abbrev S2048x1 : Shape := ⟨2, ![2048, 1]⟩
abbrev S1152x1024 : Shape := ⟨2, ![1152, 1024]⟩
abbrev S1152x1 : Shape := ⟨2, ![1152, 1]⟩
abbrev S1x1024x2048 : Shape := ⟨3, ![1, 1024, 2048]⟩
abbrev S1x2048x1024 : Shape := ⟨3, ![1, 2048, 1024]⟩
abbrev S2 : Shape := ⟨1, ![2]⟩
abbrev S1 : Shape := ⟨1, ![1]⟩
abbrev S1024x2048 : Shape := ⟨2, ![1024, 2048]⟩
abbrev S1x128 : Shape := ⟨2, ![1, 128]⟩
abbrev S2048x128 : Shape := ⟨2, ![2048, 128]⟩
abbrev S1x2048 : Shape := ⟨2, ![1, 2048]⟩
abbrev S512x1 : Shape := ⟨2, ![512, 1]⟩
abbrev S512x2048 : Shape := ⟨2, ![512, 2048]⟩
abbrev S512x128 : Shape := ⟨2, ![512, 128]⟩
abbrev S128x1 : Shape := ⟨2, ![128, 1]⟩
abbrev S128x128 : Shape := ⟨2, ![128, 128]⟩
abbrev S1x512 : Shape := ⟨2, ![1, 512]⟩
abbrev S2048x512 : Shape := ⟨2, ![2048, 512]⟩
abbrev S512x1024 : Shape := ⟨2, ![512, 1024]⟩
abbrev S640x1024 : Shape := ⟨2, ![640, 1024]⟩

abbrev nBuf : Space → Nat
  | .hbm => 42
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S2048, .i32⟩
  | .hbm, ⟨2, _⟩ => ⟨S4x1024x2048, .f32⟩
  | .hbm, ⟨3, _⟩ => ⟨S4x2048x1024, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S2048, .i32⟩
  | .hbm, ⟨13, _⟩ => ⟨S2048, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S2048, .i32⟩
  | .hbm, ⟨21, _⟩ => ⟨S2048, .i32⟩
  | .hbm, ⟨22, _⟩ => ⟨S_, .i32⟩
  | .hbm, ⟨23, _⟩ => ⟨S2048, .i32⟩
  | .hbm, ⟨24, _⟩ => ⟨S2048, .i1⟩
  | .hbm, ⟨25, _⟩ => ⟨S_, .i32⟩
  | .hbm, ⟨26, _⟩ => ⟨S2048, .i32⟩
  | .hbm, ⟨27, _⟩ => ⟨S2048, .i1⟩
  | .hbm, ⟨28, _⟩ => ⟨S_, .i32⟩
  | .hbm, ⟨29, _⟩ => ⟨S_, .i1⟩
  | .hbm, ⟨30, _⟩ => ⟨S2048, .i1⟩
  | .hbm, ⟨31, _⟩ => ⟨S2048, .i1⟩
  | .hbm, ⟨32, _⟩ => ⟨S2048, .i1⟩
  | .hbm, ⟨33, _⟩ => ⟨S2048, .i32⟩
  | .hbm, ⟨34, _⟩ => ⟨S2048, .i32⟩
  | .hbm, ⟨35, _⟩ => ⟨S2048, .i32⟩
  | .hbm, ⟨36, _⟩ => ⟨S2048, .f32⟩
  | .hbm, ⟨37, _⟩ => ⟨S2048x1, .f32⟩
  | .hbm, ⟨38, _⟩ => ⟨S2048x1024, .bf16⟩
  | .hbm, ⟨39, _⟩ => ⟨S4x1024x2048, .bf16⟩
  | .hbm, ⟨40, _⟩ => ⟨S4x2048x1024, .bf16⟩
  | .hbm, ⟨41, _⟩ => ⟨S2048x1024, .f32⟩
  | .local _ .vmem, ⟨0, _⟩ => ⟨S2048x1024, .bf16⟩
  | .local _ .vmem, ⟨1, _⟩ => ⟨S2048x1, .f32⟩
  | .local _ .vmem, ⟨2, _⟩ => ⟨S2048x1024, .f32⟩
  | .local _ .vmem, ⟨3, _⟩ => ⟨S2048x1024, .bf16⟩
  | .local _ .vmem, ⟨4, _⟩ => ⟨S2048x1, .bf16⟩
  | .local _ .vmem, ⟨5, _⟩ => ⟨S2048x1, .f32⟩
  | .local _ .vmem, ⟨6, _⟩ => ⟨S1152x1024, .bf16⟩
  | .local _ .vmem, ⟨7, _⟩ => ⟨S1152x1, .bf16⟩
  | .local _ .vmem, ⟨8, _⟩ => ⟨S1152x1024, .bf16⟩
  | .local _ .vmem, ⟨9, _⟩ => ⟨S1152x1024, .bf16⟩
  | .local _ .vmem, ⟨10, _⟩ => ⟨S1x1024x2048, .bf16⟩
  | .local _ .vmem, ⟨11, _⟩ => ⟨S1x2048x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  (ofTc nBuf bufTy 1 13 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_2 : Ref sig .tc := ⟨.hbm, 14, rfl⟩
abbrev main_call0_v0 : Ref sig .tc := ⟨.hbm, 15, rfl⟩
abbrev main_call0_c : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_c_1 : Ref sig .tc := ⟨.hbm, 22, rfl⟩
abbrev main_call0_v5 : Ref sig .tc := ⟨.hbm, 23, rfl⟩
abbrev main_call0_v6 : Ref sig .tc := ⟨.hbm, 24, rfl⟩
abbrev main_call0_c_2 : Ref sig .tc := ⟨.hbm, 25, rfl⟩
abbrev main_call0_v7 : Ref sig .tc := ⟨.hbm, 26, rfl⟩
abbrev main_call0_v8 : Ref sig .tc := ⟨.hbm, 27, rfl⟩
abbrev main_call0_c_3 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_90 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_89 : BitVec 32 := 8#32
  let v216 : BitVec 32 := Scalar.muli v2 c8_i32_89
  let v217 : BitVec 32 := Scalar.addi c0_i32_90 v216
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_91 : BitVec 32 := 4#32
  let v218 : BitVec 32 := Scalar.muli v9 c4_i32_91
  let v219 : BitVec 32 := Scalar.addi v217 v218
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_92 : BitVec 32 := 1#32
  let v220 : BitVec 32 := Scalar.muli v8 c1_i32_92
  let v221 : BitVec 32 := Scalar.addi v219 v220
  v221.toNat
def k0_dev2 (d0 : Dev nD) : Nat :=
  let c0_i32_97 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_96 : BitVec 32 := 8#32
  let v222 : BitVec 32 := Scalar.muli v2 c8_i32_96
  let v223 : BitVec 32 := Scalar.addi c0_i32_97 v222
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_98 : BitVec 32 := 4#32
  let v224 : BitVec 32 := Scalar.muli v9 c4_i32_98
  let v225 : BitVec 32 := Scalar.addi v223 v224
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_99 : BitVec 32 := 1#32
  let v226 : BitVec 32 := Scalar.muli v8 c1_i32_99
  let v227 : BitVec 32 := Scalar.addi v225 v226
  v227.toNat
def k0_dev3 (d0 : Dev nD) : Nat :=
  let c0_i32_104 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_103 : BitVec 32 := 8#32
  let v233 : BitVec 32 := Scalar.muli v2 c8_i32_103
  let v234 : BitVec 32 := Scalar.addi c0_i32_104 v233
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_105 : BitVec 32 := 4#32
  let v235 : BitVec 32 := Scalar.muli v9 c4_i32_105
  let v236 : BitVec 32 := Scalar.addi v234 v235
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_106 : BitVec 32 := 1#32
  let v237 : BitVec 32 := Scalar.muli v8 c1_i32_106
  let v238 : BitVec 32 := Scalar.addi v236 v237
  v238.toNat
def k0_dev4 (d0 : Dev nD) : Nat :=
  let c0_i32_114 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_113 : BitVec 32 := 8#32
  let v245 : BitVec 32 := Scalar.muli v2 c8_i32_113
  let v246 : BitVec 32 := Scalar.addi c0_i32_114 v245
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_115 : BitVec 32 := 4#32
  let v247 : BitVec 32 := Scalar.muli v9 c4_i32_115
  let v248 : BitVec 32 := Scalar.addi v246 v247
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_116 : BitVec 32 := 1#32
  let v249 : BitVec 32 := Scalar.muli v8 c1_i32_116
  let v250 : BitVec 32 := Scalar.addi v248 v249
  v250.toNat
def k0_dev5 (d0 : Dev nD) : Nat :=
  let c0_i32_382 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_381 : BitVec 32 := 8#32
  let v531 : BitVec 32 := Scalar.muli v2 c8_i32_381
  let v532 : BitVec 32 := Scalar.addi c0_i32_382 v531
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_383 : BitVec 32 := 4#32
  let v533 : BitVec 32 := Scalar.muli v9 c4_i32_383
  let v534 : BitVec 32 := Scalar.addi v532 v533
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_384 : BitVec 32 := 1#32
  let v535 : BitVec 32 := Scalar.muli v8 c1_i32_384
  let v536 : BitVec 32 := Scalar.addi v534 v535
  v536.toNat
abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x1024 : Shape := ⟨2, ![4096, 1024]⟩
abbrev S4096 : Shape := ⟨1, ![4096]⟩
abbrev S8x1024x2048 : Shape := ⟨3, ![8, 1024, 2048]⟩
abbrev S8x2048x1024 : Shape := ⟨3, ![8, 2048, 1024]⟩
abbrev S_ : Shape := ⟨0, ![]⟩
abbrev S1x1024x2048 : Shape := ⟨3, ![1, 1024, 2048]⟩
abbrev S1024x2048 : Shape := ⟨2, ![1024, 2048]⟩
abbrev S4096x2048 : Shape := ⟨2, ![4096, 2048]⟩
abbrev S4096x1 : Shape := ⟨2, ![4096, 1]⟩
abbrev S1x2048x1024 : Shape := ⟨3, ![1, 2048, 1024]⟩
abbrev S2048x1024 : Shape := ⟨2, ![2048, 1024]⟩

abbrev nBuf : Space → Nat
  | .hbm => 126
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096, .i32⟩
  | .hbm, ⟨2, _⟩ => ⟨S8x1024x2048, .f32⟩
  | .hbm, ⟨3, _⟩ => ⟨S8x2048x1024, .f32⟩
  | .hbm, ⟨4, _⟩ => ⟨S_, .f32⟩
  | .hbm, ⟨5, _⟩ => ⟨S4096x1024, .f32⟩
  | .hbm, ⟨6, _⟩ => ⟨S1x1024x2048, .f32⟩
  | .hbm, ⟨7, _⟩ => ⟨S1024x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S_, .i32⟩
  | .hbm, ⟨13, _⟩ => ⟨S4096, .i32⟩
  | .hbm, ⟨14, _⟩ => ⟨S4096, .i1⟩
  | .hbm, ⟨15, _⟩ => ⟨S4096x1, .i1⟩
  | .hbm, ⟨16, _⟩ => ⟨S1x2048x1024, .f32⟩
  | .hbm, ⟨17, _⟩ => ⟨S2048x1024, .f32⟩
  | .hbm, ⟨18, _⟩ => ⟨S4096x1024, .f32⟩
  | .hbm, ⟨19, _⟩ => ⟨S4096x1024, .i1⟩
  | .hbm, ⟨20, _⟩ => ⟨S4096x1024, .f32⟩
  | .hbm, ⟨21, _⟩ => ⟨S1x1024x2048, .f32⟩
  | .hbm, ⟨22, _⟩ => ⟨S1024x2048, .f32⟩
  | .hbm, ⟨23, _⟩ => ⟨S4096x2048, .f32⟩
  | .hbm, ⟨24, _⟩ => ⟨S_, .f32⟩
  | .hbm, ⟨25, _⟩ => ⟨S4096x2048, .f32⟩
  | .hbm, ⟨26, _⟩ => ⟨S4096x2048, .f32⟩
  | .hbm, ⟨27, _⟩ => ⟨S_, .i32⟩
  | .hbm, ⟨28, _⟩ => ⟨S4096, .i32⟩
  | .hbm, ⟨29, _⟩ => ⟨S4096, .i1⟩
  | .hbm, ⟨30, _⟩ => ⟨S4096x1, .i1⟩
  | .hbm, ⟨31, _⟩ => ⟨S1x2048x1024, .f32⟩
  | .hbm, ⟨32, _⟩ => ⟨S2048x1024, .f32⟩
  | .hbm, ⟨33, _⟩ => ⟨S4096x1024, .f32⟩
  | .hbm, ⟨34, _⟩ => ⟨S4096x1024, .i1⟩
  | .hbm, ⟨35, _⟩ => ⟨S4096x1024, .f32⟩
  | .hbm, ⟨36, _⟩ => ⟨S1x1024x2048, .f32⟩
  | .hbm, ⟨37, _⟩ => ⟨S1024x2048, .f32⟩
  | .hbm, ⟨38, _⟩ => ⟨S4096x2048, .f32⟩
  | .hbm, ⟨39, _⟩ => ⟨S_, .f32⟩
  | .hbm, ⟨40, _⟩ => ⟨S4096x2048, .f32⟩
  | .hbm, ⟨41, _⟩ => ⟨S4096x2048, .f32⟩
  | .hbm, ⟨42, _⟩ => ⟨S_, .i32⟩
  | .hbm, ⟨43, _⟩ => ⟨S4096, .i32⟩
  | .hbm, ⟨44, _⟩ => ⟨S4096, .i1⟩
  | .hbm, ⟨45, _⟩ => ⟨S4096x1, .i1⟩
  | .hbm, ⟨46, _⟩ => ⟨S1x2048x1024, .f32⟩
  | .hbm, ⟨47, _⟩ => ⟨S2048x1024, .f32⟩
  | .hbm, ⟨48, _⟩ => ⟨S4096x1024, .f32⟩
  | .hbm, ⟨49, _⟩ => ⟨S4096x1024, .i1⟩
  | .hbm, ⟨50, _⟩ => ⟨S4096x1024, .f32⟩
  | .hbm, ⟨51, _⟩ => ⟨S1x1024x2048, .f32⟩
  | .hbm, ⟨52, _⟩ => ⟨S1024x2048, .f32⟩
  | .hbm, ⟨53, _⟩ => ⟨S4096x2048, .f32⟩
  | .hbm, ⟨54, _⟩ => ⟨S_, .f32⟩
  | .hbm, ⟨55, _⟩ => ⟨S4096x2048, .f32⟩
  | .hbm, ⟨56, _⟩ => ⟨S4096x2048, .f32⟩
  | .hbm, ⟨57, _⟩ => ⟨S_, .i32⟩
  | .hbm, ⟨58, _⟩ => ⟨S4096, .i32⟩
  | .hbm, ⟨59, _⟩ => ⟨S4096, .i1⟩
  | .hbm, ⟨60, _⟩ => ⟨S4096x1, .i1⟩
  | .hbm, ⟨61, _⟩ => ⟨S1x2048x1024, .f32⟩
  | .hbm, ⟨62, _⟩ => ⟨S2048x1024, .f32⟩
  | .hbm, ⟨63, _⟩ => ⟨S4096x1024, .f32⟩
  | .hbm, ⟨64, _⟩ => ⟨S4096x1024, .i1⟩
  | .hbm, ⟨65, _⟩ => ⟨S4096x1024, .f32⟩
  | .hbm, ⟨66, _⟩ => ⟨S1x1024x2048, .f32⟩
  | .hbm, ⟨67, _⟩ => ⟨S1024x2048, .f32⟩
  | .hbm, ⟨68, _⟩ => ⟨S4096x2048, .f32⟩
  | .hbm, ⟨69, _⟩ => ⟨S_, .f32⟩
  | .hbm, ⟨70, _⟩ => ⟨S4096x2048, .f32⟩
  | .hbm, ⟨71, _⟩ => ⟨S4096x2048, .f32⟩
  | .hbm, ⟨72, _⟩ => ⟨S_, .i32⟩
  | .hbm, ⟨73, _⟩ => ⟨S4096, .i32⟩
  | .hbm, ⟨74, _⟩ => ⟨S4096, .i1⟩
  | .hbm, ⟨75, _⟩ => ⟨S4096x1, .i1⟩
  | .hbm, ⟨76, _⟩ => ⟨S1x2048x1024, .f32⟩
  | .hbm, ⟨77, _⟩ => ⟨S2048x1024, .f32⟩
  | .hbm, ⟨78, _⟩ => ⟨S4096x1024, .f32⟩
  | .hbm, ⟨79, _⟩ => ⟨S4096x1024, .i1⟩
  | .hbm, ⟨80, _⟩ => ⟨S4096x1024, .f32⟩
  | .hbm, ⟨81, _⟩ => ⟨S1x1024x2048, .f32⟩
  | .hbm, ⟨82, _⟩ => ⟨S1024x2048, .f32⟩
  | .hbm, ⟨83, _⟩ => ⟨S4096x2048, .f32⟩
  | .hbm, ⟨84, _⟩ => ⟨S_, .f32⟩
  | .hbm, ⟨85, _⟩ => ⟨S4096x2048, .f32⟩
  | .hbm, ⟨86, _⟩ => ⟨S4096x2048, .f32⟩
  | .hbm, ⟨87, _⟩ => ⟨S_, .i32⟩
  | .hbm, ⟨88, _⟩ => ⟨S4096, .i32⟩
  | .hbm, ⟨89, _⟩ => ⟨S4096, .i1⟩
  | .hbm, ⟨90, _⟩ => ⟨S4096x1, .i1⟩
  | .hbm, ⟨91, _⟩ => ⟨S1x2048x1024, .f32⟩
  | .hbm, ⟨92, _⟩ => ⟨S2048x1024, .f32⟩
  | .hbm, ⟨93, _⟩ => ⟨S4096x1024, .f32⟩
  | .hbm, ⟨94, _⟩ => ⟨S4096x1024, .i1⟩
  | .hbm, ⟨95, _⟩ => ⟨S4096x1024, .f32⟩
  | .hbm, ⟨96, _⟩ => ⟨S1x1024x2048, .f32⟩
  | .hbm, ⟨97, _⟩ => ⟨S1024x2048, .f32⟩
  | .hbm, ⟨98, _⟩ => ⟨S4096x2048, .f32⟩
  | .hbm, ⟨99, _⟩ => ⟨S_, .f32⟩
  | .hbm, ⟨100, _⟩ => ⟨S4096x2048, .f32⟩
  | .hbm, ⟨101, _⟩ => ⟨S4096x2048, .f32⟩
  | .hbm, ⟨102, _⟩ => ⟨S_, .i32⟩
  | .hbm, ⟨103, _⟩ => ⟨S4096, .i32⟩
  | .hbm, ⟨104, _⟩ => ⟨S4096, .i1⟩
  | .hbm, ⟨105, _⟩ => ⟨S4096x1, .i1⟩
  | .hbm, ⟨106, _⟩ => ⟨S1x2048x1024, .f32⟩
  | .hbm, ⟨107, _⟩ => ⟨S2048x1024, .f32⟩
  | .hbm, ⟨108, _⟩ => ⟨S4096x1024, .f32⟩
  | .hbm, ⟨109, _⟩ => ⟨S4096x1024, .i1⟩
  | .hbm, ⟨110, _⟩ => ⟨S4096x1024, .f32⟩
  | .hbm, ⟨111, _⟩ => ⟨S1x1024x2048, .f32⟩
  | .hbm, ⟨112, _⟩ => ⟨S1024x2048, .f32⟩
  | .hbm, ⟨113, _⟩ => ⟨S4096x2048, .f32⟩
  | .hbm, ⟨114, _⟩ => ⟨S_, .f32⟩
  | .hbm, ⟨115, _⟩ => ⟨S4096x2048, .f32⟩
  | .hbm, ⟨116, _⟩ => ⟨S4096x2048, .f32⟩
  | .hbm, ⟨117, _⟩ => ⟨S_, .i32⟩
  | .hbm, ⟨118, _⟩ => ⟨S4096, .i32⟩
  | .hbm, ⟨119, _⟩ => ⟨S4096, .i1⟩
  | .hbm, ⟨120, _⟩ => ⟨S4096x1, .i1⟩
  | .hbm, ⟨121, _⟩ => ⟨S1x2048x1024, .f32⟩
  | .hbm, ⟨122, _⟩ => ⟨S2048x1024, .f32⟩
  | .hbm, ⟨123, _⟩ => ⟨S4096x1024, .f32⟩
  | .hbm, ⟨124, _⟩ => ⟨S4096x1024, .i1⟩
  | .hbm, ⟨125, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_v0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_c_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_call1_v0 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_c_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_call2_v0 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_5 : Ref sig .tc := ⟨.hbm, 54, rfl⟩
abbrev main_v40 : Ref sig .tc := ⟨.hbm, 55, rfl⟩
abbrev main_v41 : Ref sig .tc := ⟨.hbm, 56, rfl⟩
abbrev main_c_6 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call3_v0 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_7 : Ref sig .tc := ⟨.hbm, 69, rfl⟩
abbrev main_v52 : Ref sig .tc := ⟨.hbm, 70, rfl⟩
abbrev main_v53 : Ref sig .tc := ⟨.hbm, 71, rfl⟩
abbrev main_c_8 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_call4_v0 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_9 : Ref sig .tc := ⟨.hbm, 84, rfl⟩
abbrev main_v64 : Ref sig .tc := ⟨.hbm, 85, rfl⟩
abbrev main_v65 : Ref sig .tc := ⟨.hbm, 86, rfl⟩
abbrev main_c_10 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_call5_v0 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_11 : Ref sig .tc := ⟨.hbm, 99, rfl⟩
abbrev main_v76 : Ref sig .tc := ⟨.hbm, 100, rfl⟩
abbrev main_v77 : Ref sig .tc := ⟨.hbm, 101, rfl⟩
abbrev main_c_12 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_call6_v0 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_cst_13 : Ref sig .tc := ⟨.hbm, 114, rfl⟩
abbrev main_v88 : Ref sig .tc := ⟨.hbm, 115, rfl⟩
abbrev main_v89 : Ref sig .tc := ⟨.hbm, 116, rfl⟩
abbrev main_c_14 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_call7_v0 : Ref sig .tc := ⟨.hbm, 124, rfl⟩
abbrev main_v96 : Ref sig .tc := ⟨.hbm, 125, rfl⟩

abbrev nD : Nat := 1
abbrev τ : Topo := Topo.v7x

variable {F : FTy → Type} [FloatOps F]
-- ==== Proof.Protocol.lean ====
/- The protocol between the two devices of an expert pair, as a schedule of rounds.

   Device `c` talks to one other device, `pr c`, its neighbour along the expert axis, and every semaphore carries one
   round. The barrier unit to a device hands it the sender's three landing buffers and the word that the sender is at
   round 0 of the four cells that the copies arrive on. Three copies then carry the last 1152 rows of the sorted keys and
   of the sorted tokens to the neighbour, and a fourth one carries the rows that the own experts computed for the
   neighbour's tokens back to it. Each arrival hands over the rows themselves, each departure the share of its source
   that the copy read. The three arrays are parameters here: what a device sorted, and what it computed for its
   neighbour. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.VecWindow
public import Idealize.ShloMosaic.Lib.Tactic

@[expose] public section

set_option maxRecDepth 16384

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the pipeline's copy, the exchange's, and the counters of the local copies. -/
abbrev UU : Type := UR sig nD τ × (UR sig nD τ × Counters)

local notation "𝕄" => MT nD τ sig Unit (Elt F) ℕ UU ℕ

abbrev EP : Emb (UR sig nD τ) (MT nD τ sig Unit (Elt F) ℕ UU ℕ) := embL
def ER : Emb (UR sig nD τ) (MT nD τ sig Unit (Elt F) ℕ UU ℕ) :=
  ((Emb.inl : Emb (UR sig nD τ) (UR sig nD τ × Counters)).trans (Emb.inr : Emb (UR sig nD τ × Counters) UU)).trans
    (uEmb (nD := nD) (τ := τ) (sig := sig) (Ix := Unit) (Val := Elt F) (Name := ℕ) (U := UU) (Lvl := ℕ)).toEmb

instance ER_landsIn : (ER : Emb (UR sig nD τ) 𝕄).LandsIn (upEmb : UEmb _ 𝕄) := by unfold ER; infer_instance

/-! ## The neighbour -/

/-- The device at the other place of the expert axis. -/
def pr (c : Dev nD) : Dev nD := ⟨(8 * (c.val / 8) + (c.val % 4) + 4) - 4 * ((c.val / 4) % 2), by
  have h : c.val < 16 := c.isLt
  show _ < 16
  omega⟩
@[sl_rounds] theorem pr_pr (c : Dev nD) : pr (pr c) = c := by revert c; decide
noncomputable def pairing : Dev nD ≃ Dev nD := ⟨pr, pr, pr_pr, pr_pr⟩

theorem dev1_eq (c : Dev nD) : (⟨k0_dev1 c, k0_dev1_lt c⟩ : Dev nD) = pr c := Fin.ext (k0_dev1_eq c)
theorem dev2_eq (c : Dev nD) : (⟨k0_dev2 c, k0_dev2_lt c⟩ : Dev nD) = pr c := Fin.ext (k0_dev2_eq c)
theorem dev3_eq (c : Dev nD) : (⟨k0_dev3 c, k0_dev3_lt c⟩ : Dev nD) = pr c := Fin.ext (k0_dev3_eq c)
theorem dev4_eq (c : Dev nD) : (⟨k0_dev4 c, k0_dev4_lt c⟩ : Dev nD) = pr c := Fin.ext (k0_dev4_eq c)
theorem dev5_eq (c : Dev nD) : (⟨k0_dev5 c, k0_dev5_lt c⟩ : Dev nD) = pr c := Fin.ext (k0_dev5_eq c)

/-! ## The buffers and the cells -/

abbrev xsM : Memref sig .tc .vmem S2048x1024 .bf16 := Memref.whole cc0_scratch0
abbrev ksM : Memref sig .tc .vmem S2048x1 .bf16 := Memref.whole cc0_scratch1
abbrev rkM : Memref sig .tc .vmem S2048x1 .f32 := Memref.whole cc0_scratch2
abbrev pxM : Memref sig .tc .vmem S1152x1024 .bf16 := Memref.whole cc0_scratch3
abbrev pkM : Memref sig .tc .vmem S1152x1 .bf16 := Memref.whole cc0_scratch4
abbrev sbM : Memref sig .tc .vmem S1152x1024 .bf16 := Memref.whole cc0_scratch5
abbrev rbM : Memref sig .tc .vmem S1152x1024 .bf16 := Memref.whole cc0_scratch6
abbrev w1M : Memref sig .tc .vmem S1x1024x2048 .bf16 := Memref.whole cc0_scratch7
abbrev w2M : Memref sig .tc .vmem S1x2048x1024 .bf16 := Memref.whole cc0_scratch8

/-- The windows that the copies read and write. -/
abbrev ksS : Memref sig .tc .vmem S1152x1 .bf16 :=
  ksM.slice (Rect.unit (s := S2048x1) ![896, 0] S1152x1.size inb_S2048x1_S1152x1_896_0) (fun _ => rfl)
abbrev xsS0 : Memref sig .tc .vmem S640x1024 .bf16 :=
  xsM.slice (Rect.unit (s := S2048x1024) ![896, 0] S640x1024.size inb_S2048x1024_S640x1024_896_0) (fun _ => rfl)
abbrev xsS1 : Memref sig .tc .vmem S512x1024 .bf16 :=
  xsM.slice (Rect.unit (s := S2048x1024) ![1536, 0] S512x1024.size inb_S2048x1024_S512x1024_1536_0) (fun _ => rfl)
abbrev pxS0 : Memref sig .tc .vmem S640x1024 .bf16 :=
  pxM.slice (Rect.unit (s := S1152x1024) ![0, 0] S640x1024.size inb_S1152x1024_S640x1024_0_0) (fun _ => rfl)
abbrev pxS1 : Memref sig .tc .vmem S512x1024 .bf16 :=
  pxM.slice (Rect.unit (s := S1152x1024) ![640, 0] S512x1024.size inb_S1152x1024_S512x1024_640_0) (fun _ => rfl)

abbrev barS : Sem sig := 0
abbrev sx0 : DmaSem sig := 3
abbrev sx1 : DmaSem sig := 4
abbrev rx0 : DmaSem sig := 5
abbrev rx1 : DmaSem sig := 6
abbrev sk : DmaSem sig := 7
abbrev rk : DmaSem sig := 8
abbrev sp : DmaSem sig := 9
abbrev rp : DmaSem sig := 10

abbrev barCell (c : Dev nD) : GSem nD τ sig := ((c : Thread nD τ), .reg barS)
abbrev dmaCell (c : Dev nD) (s : DmaSem sig) : GSem nD τ sig := ((c : Thread nD τ), .dma s)

/-- What each copy credits. -/
abbrev NK : ℕ := (pkM : Memref sig .tc .vmem S1152x1 .bf16).view.dmaCredit
abbrev NX0 : ℕ := (pxS0 : Memref sig .tc .vmem S640x1024 .bf16).view.dmaCredit
abbrev NX1 : ℕ := (pxS1 : Memref sig .tc .vmem S512x1024 .bf16).view.dmaCredit
abbrev NP : ℕ := (rbM : Memref sig .tc .vmem S1152x1024 .bf16).view.dmaCredit

/-! ## The contents -/

/-- What a device sorted and what it computed for its neighbour: the sorted tokens, the sorted keys, and the rows to send
    back, per device. -/
structure Arrays (F : FTy → Type) where
  xs : Dev nD → Vec F S2048x1024 .bf16
  ks : Dev nD → Vec F S2048x1 .bf16
  sb : Dev nD → Vec F S1152x1024 .bf16

theorem tail_inb (w : ℕ) : ∀ a, (![896, 0] : Fin 2 → ℕ) a + (![1152, w] : Fin 2 → ℕ) a ≤ (![2048, w] : Fin 2 → ℕ) a := by
  intro a; fin_cases a <;> simp

/-- Rows 896 onwards of the sorted tokens, and of the sorted keys. -/
noncomputable def tailX (f : Vec F S2048x1024 .bf16) : Vec F S1152x1024 .bf16 :=
  VecWindow.window (s := S2048x1024) f ![896, 0] S1152x1024.size (tail_inb 1024)
noncomputable def tailK (f : Vec F S2048x1 .bf16) : Vec F S1152x1 .bf16 :=
  VecWindow.window (s := S2048x1) f ![896, 0] S1152x1.size (tail_inb 1)

variable (A : Arrays F)

/-! ## The schedule -/

/-- A buffer through its view, at the full share. -/
abbrev own {sp : Space} {s : Shape} {e : EltTy} (M : Memref sig .tc sp s e) (c : Dev nD) (f : Buf (Elt F) (M.view.loc (c : Thread nD τ))) : sProp 𝕄 :=
  M.view.loc (c : Thread nD τ) ↦[M.view.set]{fullShare} f
/-- A window of a sorted array at half the share: what a copy holds of its source. -/
abbrev lent {sp : Space} {s : Shape} {e : EltTy} (M : Memref sig .tc sp s e) (c : Dev nD) (f : Buf (Elt F) (M.view.loc (c : Thread nD τ))) : sProp 𝕄 :=
  M.view.loc (c : Thread nD τ) ↦[M.view.set]{fullShare.left} f

/-- What `pr c`'s barrier unit hands to `c`: the landing buffers of `pr c`, and that it is at round 0 of its arrival cells. -/
def barPay (c : Dev nD) : sProp 𝕄 :=
  iprop((∃ f, own pkM (pr c) f) ∗ (∃ f, own pxS0 (pr c) f) ∗ (∃ f, own pxS1 (pr c) f) ∗ (∃ f, own rbM (pr c) f)
    ∗ reached ER (dmaCell (pr c) rk) 0 ∗ reached ER (dmaCell (pr c) rx0) 0 ∗ reached ER (dmaCell (pr c) rx1) 0 ∗ reached ER (dmaCell (pr c) rp) 0)

/-- The payload of each cell. -/
def pay (c : Dev nD) : SemLoc sig → sProp 𝕄
  | .reg _ => barPay c
  | .dma s =>
    if s = sx0 then lent xsS0 c (A.xs c)
    else if s = sx1 then lent xsS1 c (A.xs c)
    else if s = rx0 then own pxS0 c (tailX (A.xs (pr c)))
    else if s = rx1 then own pxS1 c (tailX (A.xs (pr c)))
    else if s = sk then lent ksS c (A.ks c)
    else if s = rk then own pkM c (tailK (A.ks (pr c)))
    else if s = sp then own sbM c (A.sb c)
    else if s = rp then own rbM c (A.sb (pr c))
    else iprop(emp)

/-- The units of each cell. -/
def units : SemLoc sig → ℕ
  | .reg _ => 1
  | .dma s => if s = sx0 ∨ s = rx0 then NX0 else if s = sx1 ∨ s = rx1 then NX1 else if s = sk ∨ s = rk then NK else NP

theorem NK_pos : 0 < NK := View.dmaCredit_pos _ (by decide)
theorem NX0_pos : 0 < NX0 := View.dmaCredit_pos _ (by decide)
theorem NX1_pos : 0 < NX1 := View.dmaCredit_pos _ (by decide)
theorem NP_pos : 0 < NP := View.dmaCredit_pos _ (by decide)

theorem units_pos (s : SemLoc sig) : 0 < units s := by
  cases s with
  | reg s => exact Nat.one_pos
  | dma s =>
    show 0 < (if s = sx0 ∨ s = rx0 then NX0 else if s = sx1 ∨ s = rx1 then NX1 else if s = sk ∨ s = rk then NK else NP)
    have := NK_pos; have := NX0_pos; have := NX1_pos; have := NP_pos
    (repeat' split) <;> assumption

/-- The cells that the exchange runs on. -/
abbrev IsTalk (g : GSem nD τ sig) : Prop :=
  g.1.2 = .tc ∧ (g.2 = .reg barS ∨ g.2 = .dma sx0 ∨ g.2 = .dma sx1 ∨ g.2 = .dma rx0 ∨ g.2 = .dma rx1 ∨ g.2 = .dma sk ∨ g.2 = .dma rk
    ∨ g.2 = .dma sp ∨ g.2 = .dma rp)

/-- One round of one duty on every cell of the exchange. -/
def talk : Rounds.Schedule (GSem nD τ sig) Unit 𝕄 where
  duties g r := if r = 0 ∧ IsTalk g then {()} else ∅
  unitless _ := False
  amount g _ _ := units g.2
  payload g _ _ := pay A g.1.1 g.2
  amount_pos g _ _ _ := units_pos g.2

instance own_storable {sp : Space} {s : Shape} {e : EltTy} (M : Memref sig .tc sp s e) (c : Dev nD) :
    BI.Storable (upEmb : UEmb _ 𝕄) (iprop(∃ f, own M c f) : sProp 𝕄) := by infer_instance

set_option synthInstance.maxHeartbeats 400000 in
instance barPay_storable (c : Dev nD) : BI.Storable (upEmb : UEmb _ 𝕄) (barPay (F := F) c) := by
  unfold barPay
  infer_instance

instance talk_storable (g : GSem nD τ sig) (r : ℕ) (d : Unit) : BI.Storable (upEmb : UEmb _ 𝕄) ((talk A).payload g r d) := by
  show BI.Storable upEmb (pay A g.1.1 g.2)
  cases g.2 with
  | reg s => exact barPay_storable g.1.1
  | dma s => unfold pay; dsimp only; (repeat' split) <;> infer_instance

theorem isTalk_sx0 : SemLoc.dma sx0 = .reg barS ∨ SemLoc.dma sx0 = .dma sx0 ∨ SemLoc.dma sx0 = .dma sx1 ∨ SemLoc.dma sx0 = .dma rx0 ∨ SemLoc.dma sx0 = .dma rx1 ∨ SemLoc.dma sx0 = .dma sk ∨ SemLoc.dma sx0 = .dma rk ∨ SemLoc.dma sx0 = .dma sp ∨ SemLoc.dma sx0 = (.dma rp : SemLoc sig) := .inr (.inl rfl)
theorem isTalk_sx1 : SemLoc.dma sx1 = .reg barS ∨ SemLoc.dma sx1 = .dma sx0 ∨ SemLoc.dma sx1 = .dma sx1 ∨ SemLoc.dma sx1 = .dma rx0 ∨ SemLoc.dma sx1 = .dma rx1 ∨ SemLoc.dma sx1 = .dma sk ∨ SemLoc.dma sx1 = .dma rk ∨ SemLoc.dma sx1 = .dma sp ∨ SemLoc.dma sx1 = (.dma rp : SemLoc sig) := .inr (.inr (.inl rfl))
theorem isTalk_rx0 : SemLoc.dma rx0 = .reg barS ∨ SemLoc.dma rx0 = .dma sx0 ∨ SemLoc.dma rx0 = .dma sx1 ∨ SemLoc.dma rx0 = .dma rx0 ∨ SemLoc.dma rx0 = .dma rx1 ∨ SemLoc.dma rx0 = .dma sk ∨ SemLoc.dma rx0 = .dma rk ∨ SemLoc.dma rx0 = .dma sp ∨ SemLoc.dma rx0 = (.dma rp : SemLoc sig) := .inr (.inr (.inr (.inl rfl)))
theorem isTalk_rx1 : SemLoc.dma rx1 = .reg barS ∨ SemLoc.dma rx1 = .dma sx0 ∨ SemLoc.dma rx1 = .dma sx1 ∨ SemLoc.dma rx1 = .dma rx0 ∨ SemLoc.dma rx1 = .dma rx1 ∨ SemLoc.dma rx1 = .dma sk ∨ SemLoc.dma rx1 = .dma rk ∨ SemLoc.dma rx1 = .dma sp ∨ SemLoc.dma rx1 = (.dma rp : SemLoc sig) := .inr (.inr (.inr (.inr (.inl rfl))))
theorem isTalk_sk : SemLoc.dma sk = .reg barS ∨ SemLoc.dma sk = .dma sx0 ∨ SemLoc.dma sk = .dma sx1 ∨ SemLoc.dma sk = .dma rx0 ∨ SemLoc.dma sk = .dma rx1 ∨ SemLoc.dma sk = .dma sk ∨ SemLoc.dma sk = .dma rk ∨ SemLoc.dma sk = .dma sp ∨ SemLoc.dma sk = (.dma rp : SemLoc sig) := .inr (.inr (.inr (.inr (.inr (.inl rfl)))))
theorem isTalk_rk : SemLoc.dma rk = .reg barS ∨ SemLoc.dma rk = .dma sx0 ∨ SemLoc.dma rk = .dma sx1 ∨ SemLoc.dma rk = .dma rx0 ∨ SemLoc.dma rk = .dma rx1 ∨ SemLoc.dma rk = .dma sk ∨ SemLoc.dma rk = .dma rk ∨ SemLoc.dma rk = .dma sp ∨ SemLoc.dma rk = (.dma rp : SemLoc sig) := .inr (.inr (.inr (.inr (.inr (.inr (.inl rfl))))))
theorem isTalk_sp : SemLoc.dma sp = .reg barS ∨ SemLoc.dma sp = .dma sx0 ∨ SemLoc.dma sp = .dma sx1 ∨ SemLoc.dma sp = .dma rx0 ∨ SemLoc.dma sp = .dma rx1 ∨ SemLoc.dma sp = .dma sk ∨ SemLoc.dma sp = .dma rk ∨ SemLoc.dma sp = .dma sp ∨ SemLoc.dma sp = (.dma rp : SemLoc sig) := .inr (.inr (.inr (.inr (.inr (.inr (.inr (.inl rfl)))))))
theorem isTalk_rp : SemLoc.dma rp = .reg barS ∨ SemLoc.dma rp = .dma sx0 ∨ SemLoc.dma rp = .dma sx1 ∨ SemLoc.dma rp = .dma rx0 ∨ SemLoc.dma rp = .dma rx1 ∨ SemLoc.dma rp = .dma sk ∨ SemLoc.dma rp = .dma rk ∨ SemLoc.dma rp = .dma sp ∨ SemLoc.dma rp = (.dma rp : SemLoc sig) := .inr (.inr (.inr (.inr (.inr (.inr (.inr (.inr (rfl))))))))

section Tables
variable (c : Dev nD) (u : Unit)

@[sl_rounds] theorem duties_bar : (talk A).duties (barCell c) 0 = {()} := by dsimp only [talk]; exact if_pos ⟨rfl, rfl, .inl rfl⟩
@[sl_rounds] theorem duties_sx0 : (talk A).duties (dmaCell c sx0) 0 = {()} := by dsimp only [talk]; exact if_pos ⟨rfl, rfl, isTalk_sx0⟩
@[sl_rounds] theorem duties_sx1 : (talk A).duties (dmaCell c sx1) 0 = {()} := by dsimp only [talk]; exact if_pos ⟨rfl, rfl, isTalk_sx1⟩
@[sl_rounds] theorem duties_rx0 : (talk A).duties (dmaCell c rx0) 0 = {()} := by dsimp only [talk]; exact if_pos ⟨rfl, rfl, isTalk_rx0⟩
@[sl_rounds] theorem duties_rx1 : (talk A).duties (dmaCell c rx1) 0 = {()} := by dsimp only [talk]; exact if_pos ⟨rfl, rfl, isTalk_rx1⟩
@[sl_rounds] theorem duties_sk : (talk A).duties (dmaCell c sk) 0 = {()} := by dsimp only [talk]; exact if_pos ⟨rfl, rfl, isTalk_sk⟩
@[sl_rounds] theorem duties_rk : (talk A).duties (dmaCell c rk) 0 = {()} := by dsimp only [talk]; exact if_pos ⟨rfl, rfl, isTalk_rk⟩
@[sl_rounds] theorem duties_sp : (talk A).duties (dmaCell c sp) 0 = {()} := by dsimp only [talk]; exact if_pos ⟨rfl, rfl, isTalk_sp⟩
@[sl_rounds] theorem duties_rp : (talk A).duties (dmaCell c rp) 0 = {()} := by dsimp only [talk]; exact if_pos ⟨rfl, rfl, isTalk_rp⟩
theorem duties_later (g : GSem nD τ sig) : ∀ r, 1 ≤ r → (talk A).duties g r = ∅ :=
  fun r hr => by dsimp only [talk]; exact if_neg fun h => by omega

@[sl_rounds] theorem amount_bar : (talk A).amount (barCell c) 0 u = 1 := rfl
@[sl_rounds] theorem amount_sx0 : (talk A).amount (dmaCell c sx0) 0 u = NX0 := by
  show units (.dma sx0) = _; unfold units; dsimp only; rw [if_pos (by decide)]
@[sl_rounds] theorem amount_sx1 : (talk A).amount (dmaCell c sx1) 0 u = NX1 := by
  show units (.dma sx1) = _; unfold units; dsimp only; rw [if_neg (by decide), if_pos (by decide)]
@[sl_rounds] theorem amount_rx0 : (talk A).amount (dmaCell c rx0) 0 u = NX0 := by
  show units (.dma rx0) = _; unfold units; dsimp only; rw [if_pos (by decide)]
@[sl_rounds] theorem amount_rx1 : (talk A).amount (dmaCell c rx1) 0 u = NX1 := by
  show units (.dma rx1) = _; unfold units; dsimp only; rw [if_neg (by decide), if_pos (by decide)]
@[sl_rounds] theorem amount_sk : (talk A).amount (dmaCell c sk) 0 u = NK := by
  show units (.dma sk) = _; unfold units; dsimp only; rw [if_neg (by decide), if_neg (by decide), if_pos (by decide)]
@[sl_rounds] theorem amount_rk : (talk A).amount (dmaCell c rk) 0 u = NK := by
  show units (.dma rk) = _; unfold units; dsimp only; rw [if_neg (by decide), if_neg (by decide), if_pos (by decide)]
@[sl_rounds] theorem amount_sp : (talk A).amount (dmaCell c sp) 0 u = NP := by
  show units (.dma sp) = _; unfold units; dsimp only; rw [if_neg (by decide), if_neg (by decide), if_neg (by decide)]
@[sl_rounds] theorem amount_rp : (talk A).amount (dmaCell c rp) 0 u = NP := by
  show units (.dma rp) = _; unfold units; dsimp only; rw [if_neg (by decide), if_neg (by decide), if_neg (by decide)]

theorem expect_of {g : GSem nD τ sig} {n : ℕ} (h : (talk A).duties g 0 = {()}) (ha : (talk A).amount g 0 () = n) : (talk A).expect g 0 = n := by
  unfold Schedule.expect Schedule.amountOf; rw [h, Finset.sum_singleton, ha]
@[sl_rounds] theorem expect_bar : (talk A).expect (barCell c) 0 = 1 := expect_of A (duties_bar A c) (amount_bar A c ())
@[sl_rounds] theorem expect_sx0 : (talk A).expect (dmaCell c sx0) 0 = NX0 := expect_of A (duties_sx0 A c) (amount_sx0 A c ())
@[sl_rounds] theorem expect_sx1 : (talk A).expect (dmaCell c sx1) 0 = NX1 := expect_of A (duties_sx1 A c) (amount_sx1 A c ())
@[sl_rounds] theorem expect_rx0 : (talk A).expect (dmaCell c rx0) 0 = NX0 := expect_of A (duties_rx0 A c) (amount_rx0 A c ())
@[sl_rounds] theorem expect_rx1 : (talk A).expect (dmaCell c rx1) 0 = NX1 := expect_of A (duties_rx1 A c) (amount_rx1 A c ())
@[sl_rounds] theorem expect_sk : (talk A).expect (dmaCell c sk) 0 = NK := expect_of A (duties_sk A c) (amount_sk A c ())
@[sl_rounds] theorem expect_rk : (talk A).expect (dmaCell c rk) 0 = NK := expect_of A (duties_rk A c) (amount_rk A c ())
@[sl_rounds] theorem expect_sp : (talk A).expect (dmaCell c sp) 0 = NP := expect_of A (duties_sp A c) (amount_sp A c ())
@[sl_rounds] theorem expect_rp : (talk A).expect (dmaCell c rp) 0 = NP := expect_of A (duties_rp A c) (amount_rp A c ())

@[sl_rounds] theorem payload_bar : (talk A).payload (barCell c) 0 u
    = iprop((∃ f, own pkM (pr c) f) ∗ (∃ f, own pxS0 (pr c) f) ∗ (∃ f, own pxS1 (pr c) f) ∗ (∃ f, own rbM (pr c) f)
      ∗ reached ER (dmaCell (pr c) rk) 0 ∗ reached ER (dmaCell (pr c) rx0) 0 ∗ reached ER (dmaCell (pr c) rx1) 0 ∗ reached ER (dmaCell (pr c) rp) 0) := by
  show pay A c (.reg barS) = _; unfold pay barPay; rfl
/-- What the neighbour's barrier cell is paid with: the payer's own landing buffers. -/
@[sl_rounds 10000] theorem payload_barP : (talk A).payload (barCell (pr c)) 0 u
    = iprop((∃ f, own pkM c f) ∗ (∃ f, own pxS0 c f) ∗ (∃ f, own pxS1 c f) ∗ (∃ f, own rbM c f)
      ∗ reached ER (dmaCell c rk) 0 ∗ reached ER (dmaCell c rx0) 0 ∗ reached ER (dmaCell c rx1) 0 ∗ reached ER (dmaCell c rp) 0) := by
  rw [payload_bar, pr_pr]
@[sl_rounds] theorem payload_sx0 : (talk A).payload (dmaCell c sx0) 0 u = lent xsS0 c (A.xs c) := by
  show pay A c (.dma sx0) = _; unfold pay; dsimp only; rw [if_pos rfl]
@[sl_rounds] theorem payload_sx1 : (talk A).payload (dmaCell c sx1) 0 u = lent xsS1 c (A.xs c) := by
  show pay A c (.dma sx1) = _; unfold pay; dsimp only; rw [if_neg (by decide), if_pos rfl]
@[sl_rounds] theorem payload_rx0 : (talk A).payload (dmaCell c rx0) 0 u = own pxS0 c (tailX (A.xs (pr c))) := by
  show pay A c (.dma rx0) = _; unfold pay; dsimp only; rw [if_neg (by decide), if_neg (by decide), if_pos rfl]
@[sl_rounds] theorem payload_rx1 : (talk A).payload (dmaCell c rx1) 0 u = own pxS1 c (tailX (A.xs (pr c))) := by
  show pay A c (.dma rx1) = _; unfold pay; dsimp only; rw [if_neg (by decide), if_neg (by decide), if_neg (by decide), if_pos rfl]
@[sl_rounds] theorem payload_sk : (talk A).payload (dmaCell c sk) 0 u = lent ksS c (A.ks c) := by
  show pay A c (.dma sk) = _; unfold pay; dsimp only; rw [if_neg (by decide), if_neg (by decide), if_neg (by decide), if_neg (by decide), if_pos rfl]
@[sl_rounds] theorem payload_rk : (talk A).payload (dmaCell c rk) 0 u = own pkM c (tailK (A.ks (pr c))) := by
  show pay A c (.dma rk) = _; unfold pay; dsimp only; rw [if_neg (by decide), if_neg (by decide), if_neg (by decide), if_neg (by decide), if_neg (by decide), if_pos rfl]
@[sl_rounds] theorem payload_sp : (talk A).payload (dmaCell c sp) 0 u = own sbM c (A.sb c) := by
  show pay A c (.dma sp) = _; unfold pay; dsimp only; rw [if_neg (by decide), if_neg (by decide), if_neg (by decide), if_neg (by decide), if_neg (by decide), if_neg (by decide), if_pos rfl]
@[sl_rounds] theorem payload_rp : (talk A).payload (dmaCell c rp) 0 u = own rbM c (A.sb (pr c)) := by
  show pay A c (.dma rp) = _; unfold pay; dsimp only; rw [if_neg (by decide), if_neg (by decide), if_neg (by decide), if_neg (by decide), if_neg (by decide), if_neg (by decide), if_neg (by decide), if_pos rfl]

theorem rest_of {g : GSem nD τ sig} {P : sProp 𝕄} (h : (talk A).duties g 0 = {()}) (hp : (talk A).payload g 0 () = P) :
    bigSep ((talk A).duties g 0 \ ∅) (fun u => (talk A).payload g 0 u) = P := by
  rw [Finset.sdiff_empty, h, bigSep_singleton, hp]

end Tables

/-! ## What each device owes at launch; the levels -/

/-- The neighbour's four arrivals (the copies pay them) and its barrier unit (the signal pays it). -/
def O₀ (c : Dev nD) : CellTallies nD τ sig Unit :=
  tallyAt (dmaCell (pr c) rp) () NP + tallyAt (dmaCell (pr c) rx1) () NX1 + tallyAt (dmaCell (pr c) rx0) () NX0
    + tallyAt (dmaCell (pr c) rk) () NK + tallyAt (barCell (pr c)) () 1

def L (g : GSem nD τ sig) : Finset Unit := if g.1.2 = .tc then {()} else ∅
/-- The barrier below the arrivals of the tokens and keys, those below the arrival of the computed rows; all else at the
    bottom. -/
def lvOf (s : SemLoc sig) : ℕ :=
  if s = .reg barS then 1 else if s = .dma rk ∨ s = .dma rx0 ∨ s = .dma rx1 then 2 else if s = .dma rp then 3 else 0
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl

/-- Every term of a sum of tallies on one device's cells above a level is above it. -/
def Above (k : ℕ) (O : CellTallies nD τ sig Unit) : Prop := ∀ g u, 0 < O g u → u ∈ L g ∧ k < lv g u

theorem above_tally (k : ℕ) (c : Dev nD) (s : SemLoc sig) (n : ℕ) (h : k < lvOf s) :
    Above k (tallyAt ((c : Thread nD τ), s) () n) := fun g u hg => by
  rw [tallyAt_apply] at hg
  by_cases hx : g = ((c : Thread nD τ), s) ∧ u = ()
  · obtain ⟨rfl, rfl⟩ := hx; exact ⟨by rw [L_tc]; exact Finset.mem_singleton_self _, h⟩
  · rw [if_neg hx] at hg; exact absurd hg (Nat.lt_irrefl 0)

theorem above_add {k : ℕ} {O O' : CellTallies nD τ sig Unit} (h : Above k O) (h' : Above k O') : Above k (O + O') := fun g u hg => by
  have hg' : 0 < O g u + O' g u := hg
  rcases Nat.eq_zero_or_pos (O g u) with h0 | h0
  · exact h' g u (by omega)
  · exact h g u h0

/-- A wait on a cell below everything owed may be taken. -/
theorem mayWait_of (c : Dev nD) (s : SemLoc sig) (O : CellTallies nD τ sig Unit) (h : Above (lvOf s) O) :
    (levAts L lv : sProp 𝕄) ⊢ MayWait (c : Thread nD τ) s () O :=
  MayOwe.of_cut (L := L) (lev := lv) (lvOf s) (fun p hp => by rw [Finset.mem_singleton.mp hp, L_tc]; exact Finset.mem_singleton_self _)
    (fun g u hg => (h g u hg).1) (fun p hp => by rw [Finset.mem_singleton.mp hp]; exact le_rfl) (fun g u hg => (h g u hg).2)

end Cert.MoE
-- ==== Proof.Model.lean ====
module

public import proofs.«01_k».proof.Proof.Protocol

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-! ## Four blocks of 512 rows, one under the other -/

section Four
variable {α : Type} (w : ℕ)

abbrev Rows : Shape := ⟨2, ![2048, w]⟩

/-- Four blocks of 512 rows over all 2048 rows of `base`. -/
noncomputable def four (base : (Rows w).Idx → α) (a b c d : ((i : Fin 2) → Fin ((![512, w] : Fin 2 → ℕ) i)) → α) : (Rows w).Idx → α :=
  VecWindow.put (s := Rows w) (VecWindow.put (s := Rows w) (VecWindow.put (s := Rows w) (VecWindow.put (s := Rows w) base ![0, 0] ![512, w] a)
    ![512, 0] ![512, w] b) ![1024, 0] ![512, w] c) ![1536, 0] ![512, w] d

theorem block_inb (o : ℕ) (h : o + 512 ≤ 2048) : ∀ a, (![o, 0] : Fin 2 → ℕ) a + (![512, w] : Fin 2 → ℕ) a ≤ (Rows w).size a := by
  intro a; fin_cases a
  · exact h
  · show 0 + w ≤ w; omega

/-- Four blocks that are the windows of one array make up that array. -/
theorem four_eq (base G : (Rows w).Idx → α) (a b c d : ((i : Fin 2) → Fin ((![512, w] : Fin 2 → ℕ) i)) → α)
    (ha : a = VecWindow.window (s := Rows w) G ![0, 0] ![512, w] (block_inb w 0 (by decide)))
    (hb : b = VecWindow.window (s := Rows w) G ![512, 0] ![512, w] (block_inb w 512 (by decide)))
    (hc : c = VecWindow.window (s := Rows w) G ![1024, 0] ![512, w] (block_inb w 1024 (by decide)))
    (hd : d = VecWindow.window (s := Rows w) G ![1536, 0] ![512, w] (block_inb w 1536 (by decide))) :
    four w base a b c d = G := by
  have key : ∀ (o : ℕ) (h : o + 512 ≤ 2048) (y : (Rows w).Idx) (hm : ∀ i, (![o, 0] : Fin 2 → ℕ) i ≤ (y i).val ∧ (y i).val < (![o, 0] : Fin 2 → ℕ) i + (![512, w] : Fin 2 → ℕ) i),
      VecWindow.window (s := Rows w) G ![o, 0] ![512, w] (block_inb w o h) (Rect.unitLocal (s := Rows w) (off := ![o, 0]) (size := ![512, w]) y hm) = G y := by
    intro o h y hm
    exact congrArg G (funext fun i => Fin.ext (by
      show (![o, 0] : Fin 2 → ℕ) i + 1 * ((y i).val - (![o, 0] : Fin 2 → ℕ) i) = (y i).val
      have := hm i
      omega))
  funext y
  have hy0 : (y 0).val < 2048 := (y 0).isLt
  have hy1 : (y 1).val < w := (y 1).isLt
  unfold four VecWindow.put
  split
  · rw [hd]; exact key 1536 (by decide) y _
  split
  · rw [hc]; exact key 1024 (by decide) y _
  split
  · rw [hb]; exact key 512 (by decide) y _
  split
  · rw [ha]; exact key 0 (by decide) y _
  next h3 h2 h1 h0 =>
    have row : ∀ o : ℕ, (¬ ∀ i, (![o, 0] : Fin 2 → ℕ) i ≤ (y i).val ∧ (y i).val < (![o, 0] : Fin 2 → ℕ) i + (![512, w] : Fin 2 → ℕ) i) → ¬ (o ≤ (y 0).val ∧ (y 0).val < o + 512) := by
      intro o hn hr
      apply hn
      intro i
      fin_cases i
      · exact hr
      · exact ⟨Nat.zero_le _, by show (y 1).val < 0 + w; omega⟩
    have := row _ h0; have := row _ h1; have := row _ h2; have := row _ h3
    omega

/-- The base does not show. -/
theorem four_base (base base' : (Rows w).Idx → α) (a b c d : ((i : Fin 2) → Fin ((![512, w] : Fin 2 → ℕ) i)) → α) :
    four w base a b c d = four w base' a b c d := by
  refine four_eq w base _ a b c d ?_ ?_ ?_ ?_
  · unfold four
    rw [VecWindow.window_put_of_disjoint _ _ _ _ _ _ _ 0 (.inl (by simp)), VecWindow.window_put_of_disjoint _ _ _ _ _ _ _ 0 (.inl (by simp)),
      VecWindow.window_put_of_disjoint _ _ _ _ _ _ _ 0 (.inl (by simp)), VecWindow.window_put_same]
  · unfold four
    rw [VecWindow.window_put_of_disjoint _ _ _ _ _ _ _ 0 (.inl (by simp)), VecWindow.window_put_of_disjoint _ _ _ _ _ _ _ 0 (.inl (by simp)),
      VecWindow.window_put_same]
  · unfold four
    rw [VecWindow.window_put_of_disjoint _ _ _ _ _ _ _ 0 (.inl (by simp)), VecWindow.window_put_same]
  · unfold four
    rw [VecWindow.window_put_same]

/-- Four stores, one under the other, leave the four blocks. -/
theorem read_writes_four {sig : RefSig} {κ : Kind} {sp : Space} {e : EltTy} {Val : EltTy → Type} (v : View sig κ sp (Rows w) e) (f : v.ty.Contents Val)
    (base : (Rows w).Idx → Val e)
    (i0 : ∀ i, (![0, 0] : Fin 2 → ℕ) i + (![512, w] : Fin 2 → ℕ) i ≤ (Rows w).size i) (i1 : ∀ i, (![512, 0] : Fin 2 → ℕ) i + (![512, w] : Fin 2 → ℕ) i ≤ (Rows w).size i)
    (i2 : ∀ i, (![1024, 0] : Fin 2 → ℕ) i + (![512, w] : Fin 2 → ℕ) i ≤ (Rows w).size i) (i3 : ∀ i, (![1536, 0] : Fin 2 → ℕ) i + (![512, w] : Fin 2 → ℕ) i ≤ (Rows w).size i)
    (a b c d : ((i : Fin 2) → Fin ((![512, w] : Fin 2 → ℕ) i)) → Val e) :
    v.read Val (v.writes Val f [⟨Rect.unit ![1536, 0] ![512, w] i3, d⟩, ⟨Rect.unit ![1024, 0] ![512, w] i2, c⟩, ⟨Rect.unit ![512, 0] ![512, w] i1, b⟩,
      ⟨Rect.unit ![0, 0] ![512, w] i0, a⟩]) = four w base a b c d := by
  rw [View.read_writes_cons_put v f i3 d _ rfl, View.read_writes_cons_put v f i2 c _ rfl, View.read_writes_cons_put v f i1 b _ rfl,
    View.read_writes_cons_put v f i0 a _ rfl]
  exact four_base w _ _ a b c d

end Four

/-! ## The sorted tokens and keys -/

section Sorted
variable {F : FTy → Type} [FloatOps F]

/-- The place of each token in the sorted order. -/
noncomputable def rankV (k : Vec F S2048x1 .f32) : Vec F S2048x1 .f32 :=
  k0_pay10 k0_pay2 (k0_pay4 (k0_pay3 k)) (k0_pay6 (k0_pay3 k)) (k0_pay7 (k0_pay3 k)) (k0_pay8 (k0_pay3 k)) (k0_pay9 (F := F)) (Scalar.ofBits .f32 0x3F800000#32)

/-- The tokens in sorted order. -/
noncomputable def xsV (x : Vec F S2048x1024 .bf16) (k : Vec F S2048x1 .f32) : Vec F S2048x1024 .bf16 :=
  four 1024 x (k0_pay13 (rankV k) k0_pay11 (Scalar.ofBits .f32 0x00000000#32) x) (k0_pay16 (rankV k) x) (k0_pay19 (rankV k) x)
    (k0_pay25 (k0_pay21 (rankV k)) k0_pay22 k0_pay23 x)

/-- The keys in sorted order. -/
noncomputable def ksV (k : Vec F S2048x1 .f32) : Vec F S2048x1 .bf16 :=
  four 1 (fun _ => Scalar.ofBits .bf16 0x0000#16) (k0_pay14 (k0_pay1 k) (rankV k) k0_pay11 (Scalar.ofBits .f32 0x00000000#32))
    (k0_pay17 (k0_pay1 k) (k0_pay15 (rankV k))) (k0_pay20 (k0_pay1 k) (rankV k))
    (k0_pay26 (k0_pay1 k) (k0_pay21 (rankV k)) k0_pay22 k0_pay23)

end Sorted

end Cert.MoE
end
-- ==== Proof.Sends.lean ====
module

public import proofs.«01_k».proof.Proof.Model

@[expose] public section

set_option maxRecDepth 16384

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A whole buffer of device `c` at the full share. -/
abbrev pt (c : Dev nD) (b : Ref sig .tc) (f : b.ty.Contents (Elt F)) : sProp 𝕄 := (Memref.whole b).view.loc (c : Thread nD τ) ↦{fullShare} f

abbrev 𝒱₀ : Variants := Variants.none

/-! ## Splitting the arrays for the copies -/

theorem xs_windows : xsS1.view.set ⊆ (Finset.univ \ xsS0.view.set : Finset (cc0_scratch0 : Ref sig .tc).ty.shape.Idx) := by
  intro i h1
  refine Finset.mem_sdiff.mpr ⟨Finset.mem_univ _, fun h0 => ?_⟩
  obtain ⟨y, -, rfl⟩ := Finset.mem_map.mp h1
  obtain ⟨z, -, e⟩ := Finset.mem_map.mp h0
  have h : (896 + 1 * (z 0).val : ℕ) = 1536 + 1 * (y 0).val := congrArg (fun i => (i 0).val) e
  have hz : (z 0).val < 640 := (z 0).isLt
  omega

/-- The two windows of the sorted tokens at half the share, to be sent; the rest of that half; the other half of all. -/
theorem xs_lend (c : Dev nD) (f : (cc0_scratch0 : Ref sig .tc).ty.Contents (Elt F)) :
    pt c cc0_scratch0 f ⊣⊢ iprop(lent xsS0 c f ∗ lent xsS1 c f
      ∗ ((Memref.whole cc0_scratch0).view.loc (c : Thread nD τ) ↦[(Finset.univ \ xsS0.view.set) \ xsS1.view.set]{fullShare.left} f)
      ∗ (Memref.whole cc0_scratch0).view.loc (c : Thread nD τ) ↦{fullShare.right} f) := by
  refine (pointsTo_share (PosShare.mem_left_op_right fullShare)).trans ?_
  refine (sep_congr_left ((pointsTo_split_subset (I := xsS0.view.set) (Finset.subset_univ _)).trans
    (sep_congr_right (pointsTo_split_subset (I := xsS1.view.set) xs_windows)))).trans ?_
  exact sep_assoc.trans (sep_congr_right sep_assoc)

/-- The window of the sorted keys at half the share, to be sent; the rest of that half; the other half of all. -/
theorem ks_lend (c : Dev nD) (f : (cc0_scratch1 : Ref sig .tc).ty.Contents (Elt F)) :
    pt c cc0_scratch1 f ⊣⊢ iprop(lent ksS c f
      ∗ ((Memref.whole cc0_scratch1).view.loc (c : Thread nD τ) ↦[Finset.univ \ ksS.view.set]{fullShare.left} f)
      ∗ (Memref.whole cc0_scratch1).view.loc (c : Thread nD τ) ↦{fullShare.right} f) := by
  refine (pointsTo_share (PosShare.mem_left_op_right fullShare)).trans ?_
  refine (sep_congr_left (pointsTo_split_subset (I := ksS.view.set) (Finset.subset_univ _))).trans ?_
  exact sep_assoc

theorem px_sdiff : (Finset.univ \ pxS0.view.set : Finset (cc0_scratch3 : Ref sig .tc).ty.shape.Idx) = pxS1.view.set := by
  ext i
  rw [Finset.mem_sdiff]
  constructor
  · rintro ⟨-, h⟩
    have hi : 640 ≤ (i 0).val := by
      by_contra hlt
      refine h (Finset.mem_map.mpr ⟨fun a => ⟨(i a).val, ?_⟩, Finset.mem_univ _, ?_⟩)
      · match a with
        | 0 => show (i 0).val < 640; omega
        | 1 => exact (i 1).isLt
      · funext a
        refine Fin.ext ?_
        match a with
        | 0 => show 0 + 1 * (i 0).val = (i 0).val; omega
        | 1 => show 0 + 1 * (i 1).val = (i 1).val; omega
    have hi0 : (i 0).val < 1152 := (i 0).isLt
    refine Finset.mem_map.mpr ⟨fun a => ⟨(i a).val - (![640, 0] : Fin 2 → ℕ) a, ?_⟩, Finset.mem_univ _, ?_⟩
    · match a with
      | 0 => show (i 0).val - 640 < 512; omega
      | 1 => exact (i 1).isLt
    · funext a
      refine Fin.ext ?_
      match a with
      | 0 => show 640 + 1 * ((i 0).val - 640) = (i 0).val; omega
      | 1 => show 0 + 1 * ((i 1).val - 0) = (i 1).val; omega
  · intro h1
    refine ⟨Finset.mem_univ _, fun h0 => ?_⟩
    obtain ⟨y, -, rfl⟩ := Finset.mem_map.mp h1
    obtain ⟨z, -, e⟩ := Finset.mem_map.mp h0
    have h : (0 + 1 * (z 0).val : ℕ) = 640 + 1 * (y 0).val := congrArg (fun i => (i 0).val) e
    have hz : (z 0).val < 640 := (z 0).isLt
    omega

/-- The landing buffer of the tokens is its two windows. -/
theorem px_windows (c : Dev nD) (f : (cc0_scratch3 : Ref sig .tc).ty.Contents (Elt F)) :
    pt c cc0_scratch3 f ⊣⊢ iprop(own pxS0 c f ∗ own pxS1 c f) := by
  have h := pointsTo_split_subset (sig := sig) (ℓ := (Memref.whole cc0_scratch3).view.loc (c : Thread nD τ)) (q := fullShare) (f := f)
    (I := pxS0.view.set) (S := Finset.univ) (Ix := Unit) (U := UU) (Lvl := ℕ) (Name := ℕ) (Finset.subset_univ _)
  rw [px_sdiff] at h
  exact h

/-! ## What lands -/

theorem land_k (c : Dev nD) (fs : Vec F S2048x1 .bf16) (fd : (cc0_scratch4 : Ref sig .tc).ty.Contents (Elt F)) :
    ∀ i ∈ pkM.view.set, pkM.view.write (Elt F) fd (ksS.view.read (Elt F) fs) Finset.univ i = tailK fs i := by
  intro i hi
  obtain ⟨y, -, rfl⟩ := Finset.mem_map.mp hi
  rw [View.write_emb_of_mem (h := Finset.mem_univ _)]
  rfl

theorem land_x0 (c : Dev nD) (fs : Vec F S2048x1024 .bf16) (fd : (cc0_scratch3 : Ref sig .tc).ty.Contents (Elt F)) :
    ∀ i ∈ pxS0.view.set, pxS0.view.write (Elt F) fd (xsS0.view.read (Elt F) fs) Finset.univ i = tailX fs i := by
  intro i hi
  obtain ⟨y, -, rfl⟩ := Finset.mem_map.mp hi
  rw [View.write_emb_of_mem (h := Finset.mem_univ _)]
  refine congrArg fs (funext fun a => Fin.ext ?_)
  match a with
  | 0 => show 896 + 1 * (y 0).val = 896 + 1 * (0 + 1 * (y 0).val); omega
  | 1 => show 0 + 1 * (y 1).val = 0 + 1 * (0 + 1 * (y 1).val); omega

theorem land_x1 (c : Dev nD) (fs : Vec F S2048x1024 .bf16) (fd : (cc0_scratch3 : Ref sig .tc).ty.Contents (Elt F)) :
    ∀ i ∈ pxS1.view.set, pxS1.view.write (Elt F) fd (xsS1.view.read (Elt F) fs) Finset.univ i = tailX fs i := by
  intro i hi
  obtain ⟨y, -, rfl⟩ := Finset.mem_map.mp hi
  rw [View.write_emb_of_mem (h := Finset.mem_univ _)]
  refine congrArg fs (funext fun a => Fin.ext ?_)
  match a with
  | 0 => show 1536 + 1 * (y 0).val = 896 + 1 * (640 + 1 * (y 0).val); omega
  | 1 => show 0 + 1 * (y 1).val = 0 + 1 * (0 + 1 * (y 1).val); omega

/-! ## A copy to the neighbour -/

variable (A : Arrays F)

/-- `Rounds.wp_send_pointsTo` for a copy addressed to a device that equals the neighbour. -/
theorem wp_send_to (K : GSem nD τ sig → ℕ) (c n : Dev nD) (hn : n = pr c) {sp sp' : Space} {s : Shape} {e : EltTy} (src : Memref sig .tc sp s e)
    (dst : Memref sig .tc sp' s e) (sS sR : DmaSem sig)
    {hsc : (dst : Memref sig (Dev.tc n : Thread nD τ).2.kind sp' s e).view.ref.isScScratch = false} {hsrc : src.view.WordExact} {hdst : dst.view.WordExact}
    {hsem : DmaTarget.Typed sp (.dma sR) (.remote (Dev.tc n : Thread nD τ) (dst : Memref sig .tc sp' s e) (.dma sS) hsc)}
    {α : Type} {Q : α → sProp 𝕄} {k : PUnit → Prog (TpuEff nD τ sig (Elt F) Λ₀ .tc) α}
    (q : PosShare TreeShare) (fs : Buf (Elt F) (src.view.loc (c : Thread nD τ))) (fd : Buf (Elt F) (dst.view.loc (pr c : Thread nD τ)))
    (N : ℕ) (hN : dst.view.amount (.dma sR) = N)
    (hd₁ : (talk A).duties (dmaCell c sS) 0 = {()}) (hd₂ : (talk A).duties (dmaCell (pr c) sR) 0 = {()})
    (ha₁ : (talk A).amount (dmaCell c sS) 0 () = N) (ha₂ : (talk A).amount (dmaCell (pr c) sR) 0 () = N)
    (hp₁ : (src.view.loc (c : Thread nD τ) ↦[src.view.set]{q} fs : sProp 𝕄) ⊢ (talk A).payload (dmaCell c sS) 0 ())
    (hp₂ : (dst.view.loc (pr c : Thread nD τ) ↦[dst.view.set]{fullShare} (dst.view.write (Elt F) fd (src.view.read (Elt F) fs) Finset.univ) : sProp 𝕄)
      ⊢ (talk A).payload (dmaCell (pr c) sR) 0 ())
    (O₁ O : CellTallies nD τ sig Unit) (hO : O₁ = O + tallyAt (dmaCell (pr c) sR) () N) (W : Waits sig Unit) :
    iprop(cellInv ER (talk A) (K (dmaCell c sS)) (dmaCell c sS) ∗ cellInv ER (talk A) (K (dmaCell (pr c) sR)) (dmaCell (pr c) sR)
        ∗ (src.view.loc (c : Thread nD τ) ↦[src.view.set]{q} fs) ∗ (dst.view.loc (pr c : Thread nD τ) ↦[dst.view.set]{fullShare} fd)
        ∗ owes (c : Thread nD τ) O₁ W
        ∗ dutyTok ER (dmaCell c sS) 0 () ∗ reached ER (dmaCell c sS) 0
        ∗ dutyTok ER (dmaCell (pr c) sR) 0 () ∗ reached ER (dmaCell (pr c) sR) 0)
      ⊢ iprop(((cred (tallyAt (dmaCell c sS) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) k) Q) := by
  subst hn
  exact Rounds.wp_send_pointsTo 𝒱₀ ER (talk A) (c : Thread nD τ) none (κ₁ := K (dmaCell c sS)) (κ₂ := K (dmaCell (pr c) sR))
    (r₁ := 0) (r₂ := 0) (d₁ := ()) (d₂ := ()) (fd := fd)
    (by rw [hd₁]; exact Finset.mem_singleton_self _) (by rw [hd₂]; exact Finset.mem_singleton_self _)
    () () N hN ha₁ ha₂ O hO (W := W) hp₁ hp₂

theorem pay_k (c : Dev nD) (fd : (cc0_scratch4 : Ref sig .tc).ty.Contents (Elt F)) :
    (pkM.view.loc (pr c : Thread nD τ) ↦[pkM.view.set]{fullShare} (pkM.view.write (Elt F) fd (ksS.view.read (Elt F) (A.ks c)) Finset.univ) : sProp 𝕄)
      ⊢ (talk A).payload (dmaCell (pr c) rk) 0 () := by
  rw [payload_rk, pr_pr]
  exact Entails.of_eq (pointsTo_congr (land_k c (A.ks c) fd))

theorem pay_x0 (c : Dev nD) (fd : (cc0_scratch3 : Ref sig .tc).ty.Contents (Elt F)) :
    (pxS0.view.loc (pr c : Thread nD τ) ↦[pxS0.view.set]{fullShare} (pxS0.view.write (Elt F) fd (xsS0.view.read (Elt F) (A.xs c)) Finset.univ) : sProp 𝕄)
      ⊢ (talk A).payload (dmaCell (pr c) rx0) 0 () := by
  rw [payload_rx0, pr_pr]
  exact Entails.of_eq (pointsTo_congr (land_x0 c (A.xs c) fd))

theorem pay_x1 (c : Dev nD) (fd : (cc0_scratch3 : Ref sig .tc).ty.Contents (Elt F)) :
    (pxS1.view.loc (pr c : Thread nD τ) ↦[pxS1.view.set]{fullShare} (pxS1.view.write (Elt F) fd (xsS1.view.read (Elt F) (A.xs c)) Finset.univ) : sProp 𝕄)
      ⊢ (talk A).payload (dmaCell (pr c) rx1) 0 () := by
  rw [payload_rx1, pr_pr]
  exact Entails.of_eq (pointsTo_congr (land_x1 c (A.xs c) fd))

theorem pay_p (c : Dev nD) (fd : (cc0_scratch6 : Ref sig .tc).ty.Contents (Elt F)) :
    (rbM.view.loc (pr c : Thread nD τ) ↦[rbM.view.set]{fullShare} (rbM.view.write (Elt F) fd (sbM.view.read (Elt F) (A.sb c)) Finset.univ) : sProp 𝕄)
      ⊢ (talk A).payload (dmaCell (pr c) rp) 0 () := by
  rw [payload_rp, pr_pr]
  refine Entails.of_eq (pointsTo_congr fun i hi => ?_)
  obtain ⟨y, -, rfl⟩ := Finset.mem_map.mp hi
  rw [View.write_emb_of_mem (h := Finset.mem_univ _)]
  rfl

end Cert.MoE
end
-- ==== Proof.Blocks.lean ====
module

public import proofs.«01_k».proof.Proof.Model

@[expose] public section

set_option maxRecDepth 16384

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-! ## What a list of stores leaves in a whole buffer -/

section Leaves
variable {Val : EltTy → Type} [∀ e, Nonempty (Val e)] {sig : RefSig} {κ : Kind} {sp : Space} {s : Shape} {e : EltTy}

/-- Over any earlier contents, the stores of `P` leave the values `X`. -/
def Leaves (v : View sig κ sp s e) (P : List (View.Piece Val s e)) (X : s.Idx → Val e) : Prop :=
  ∀ f : v.ty.Contents Val, v.read Val (v.writes Val f P) = X

theorem leaves_full (v : View sig κ sp s e) {off : Fin s.rank → ℕ} (inb : ∀ a, off a + s.size a ≤ s.size a)
    (w : (Rect.unit off s.size inb).shape.Idx → Val e) (P : List (View.Piece Val s e)) :
    Leaves v (⟨Rect.unit off s.size inb, w⟩ :: P) w := fun f => View.read_writes_full v f inb w P

theorem leaves_put (v : View sig κ sp s e) {P : List (View.Piece Val s e)} {X : s.Idx → Val e} (h : Leaves v P X)
    {off size : Fin s.rank → ℕ} (inb : ∀ a, off a + size a ≤ s.size a) (w : (Rect.unit off size inb).shape.Idx → Val e) :
    Leaves v (⟨Rect.unit off size inb, w⟩ :: P) (VecWindow.put X off size w) := fun f =>
  (View.read_writes_cons_put v f inb w P rfl).trans (by rw [h f])

theorem leaves_load (v : View sig κ sp s e) {P : List (View.Piece Val s e)} {X : s.Idx → Val e} (h : Leaves v P X)
    {off size : Fin s.rank → ℕ} (inb : ∀ a, off a + size a ≤ s.size a) :
    v.readCov P (Rect.unit off size inb).toLoadRect = VecWindow.window X off size inb :=
  (View.readAt_unit v (v.writes Val v.junk P) inb rfl inb).trans (by rw [h])

end Leaves

/-! ## The weights, one expert at a time -/

section Weights
variable {F : FTy → Type} [FloatOps F]

/-- The first weights of local expert `n`. -/
noncomputable def wA (w : Vec F S4x1024x2048 .bf16) (n : ℕ) (h : ∀ a, (![n, 0, 0] : Fin 3 → ℕ) a + S1x1024x2048.size a ≤ S4x1024x2048.size a) : Vec F S1x1024x2048 .bf16 :=
  VecWindow.window (s := S4x1024x2048) w ![n, 0, 0] S1x1024x2048.size h

/-- The second weights of local expert `n`. -/
noncomputable def wB (w : Vec F S4x2048x1024 .bf16) (n : ℕ) (h : ∀ a, (![n, 0, 0] : Fin 3 → ℕ) a + S1x2048x1024.size a ≤ S4x2048x1024.size a) : Vec F S1x2048x1024 .bf16 :=
  VecWindow.window (s := S4x2048x1024) w ![n, 0, 0] S1x2048x1024.size h

abbrev wA0 (w : Vec F S4x1024x2048 .bf16) := wA w 0 inb_S4x1024x2048_S1x1024x2048_0_0_0
abbrev wA1 (w : Vec F S4x1024x2048 .bf16) := wA w 1 inb_S4x1024x2048_S1x1024x2048_1_0_0
abbrev wA2 (w : Vec F S4x1024x2048 .bf16) := wA w 2 inb_S4x1024x2048_S1x1024x2048_2_0_0
abbrev wA3 (w : Vec F S4x1024x2048 .bf16) := wA w 3 inb_S4x1024x2048_S1x1024x2048_3_0_0
abbrev wB0 (w : Vec F S4x2048x1024 .bf16) := wB w 0 inb_S4x2048x1024_S1x2048x1024_0_0_0
abbrev wB1 (w : Vec F S4x2048x1024 .bf16) := wB w 1 inb_S4x2048x1024_S1x2048x1024_1_0_0
abbrev wB2 (w : Vec F S4x2048x1024 .bf16) := wB w 2 inb_S4x2048x1024_S1x2048x1024_2_0_0
abbrev wB3 (w : Vec F S4x2048x1024 .bf16) := wB w 3 inb_S4x2048x1024_S1x2048x1024_3_0_0

/-- After expert `n`'s first weights have been copied in, the buffer holds them. -/
theorem wA_load (w : (main_v12 : Ref sig .tc).ty.Contents (Elt F)) (f : (cc0_scratch7 : Ref sig .tc).ty.Contents (Elt F)) (n : ℕ)
    (h : ∀ a, (![n, 0, 0] : Fin 3 → ℕ) a + S1x1024x2048.size a ≤ S4x1024x2048.size a) (p q) :
    (Memref.whole cc0_scratch7).view.readAt (Elt F) (Rect.unit ![0, 0, 0] S1x1024x2048.size inb_S1x1024x2048_S1x1024x2048_0_0_0).toLoadRect
      (View.write (Elt F) (((Memref.whole cc0_scratch7).slice (Rect.unit ![0, 0, 0] S1x1024x2048.size inb_S1x1024x2048_S1x1024x2048_0_0_0) p).squeeze
          S1024x2048 squeezes_S1x1024x2048_S1024x2048).view f
        (ReadAs.same.apply (View.read (Elt F) (((Memref.whole main_v12).slice (Rect.unit ![n, 0, 0] S1x1024x2048.size h) q).squeeze
          S1024x2048 squeezes_S1x1024x2048_S1024x2048).view w)) Finset.univ)
      = wA w n h := by
  rw [View.readAt_full (Val := Elt F) (s := S1x1024x2048) (e := .bf16) (Memref.whole cc0_scratch7).view _ inb_S1x1024x2048_S1x1024x2048_0_0_0]
  funext y
  have e := Memref.read_squeeze_full (Val := Elt F) (s := S1x1024x2048) (e := .bf16) (Memref.whole cc0_scratch7) inb_S1x1024x2048_S1x1024x2048_0_0_0
    squeezes_S1x1024x2048_S1024x2048
    (View.write (Elt F) (((Memref.whole cc0_scratch7).slice (Rect.unit ![0, 0, 0] S1x1024x2048.size inb_S1x1024x2048_S1x1024x2048_0_0_0) p).squeeze
          S1024x2048 squeezes_S1x1024x2048_S1024x2048).view f
        (ReadAs.same.apply (View.read (Elt F) (((Memref.whole main_v12).slice (Rect.unit ![n, 0, 0] S1x1024x2048.size h) q).squeeze
          S1024x2048 squeezes_S1x1024x2048_S1024x2048).view w)) Finset.univ)
  have e2 := congrFun (e.symm.trans (View.read_write_univ _ _)) ((Shape.reshapeEquiv squeezes_S1x1024x2048_S1024x2048.numel_eq).symm y)
  rw [show Shape.reshapeEquiv squeezes_S1x1024x2048_S1024x2048.numel_eq ((Shape.reshapeEquiv squeezes_S1x1024x2048_S1024x2048.numel_eq).symm y) = y from Equiv.apply_symm_apply _ _] at e2
  refine e2.trans ?_
  show (w : S4x1024x2048.Idx → F .bf16) ((Rect.unit (s := S4x1024x2048) ![n, 0, 0] S1x1024x2048.size h).emb (Shape.reshapeEquiv squeezes_S1x1024x2048_S1024x2048.numel_eq ((Shape.reshapeEquiv squeezes_S1x1024x2048_S1024x2048.numel_eq).symm y))) = (w : S4x1024x2048.Idx → F .bf16) ((Rect.unit (s := S4x1024x2048) ![n, 0, 0] S1x1024x2048.size h).emb y)
  rw [show Shape.reshapeEquiv squeezes_S1x1024x2048_S1024x2048.numel_eq ((Shape.reshapeEquiv squeezes_S1x1024x2048_S1024x2048.numel_eq).symm y) = y from Equiv.apply_symm_apply _ _]

/-- After expert `n`'s second weights have been copied in, the buffer holds them. -/
theorem wB_load (w : (main_v13 : Ref sig .tc).ty.Contents (Elt F)) (f : (cc0_scratch8 : Ref sig .tc).ty.Contents (Elt F)) (n : ℕ)
    (h : ∀ a, (![n, 0, 0] : Fin 3 → ℕ) a + S1x2048x1024.size a ≤ S4x2048x1024.size a) (p q) :
    (Memref.whole cc0_scratch8).view.readAt (Elt F) (Rect.unit ![0, 0, 0] S1x2048x1024.size inb_S1x2048x1024_S1x2048x1024_0_0_0).toLoadRect
      (View.write (Elt F) (((Memref.whole cc0_scratch8).slice (Rect.unit ![0, 0, 0] S1x2048x1024.size inb_S1x2048x1024_S1x2048x1024_0_0_0) p).squeeze
          S2048x1024 squeezes_S1x2048x1024_S2048x1024).view f
        (ReadAs.same.apply (View.read (Elt F) (((Memref.whole main_v13).slice (Rect.unit ![n, 0, 0] S1x2048x1024.size h) q).squeeze
          S2048x1024 squeezes_S1x2048x1024_S2048x1024).view w)) Finset.univ)
      = wB w n h := by
  rw [View.readAt_full (Val := Elt F) (s := S1x2048x1024) (e := .bf16) (Memref.whole cc0_scratch8).view _ inb_S1x2048x1024_S1x2048x1024_0_0_0]
  funext y
  have e := Memref.read_squeeze_full (Val := Elt F) (s := S1x2048x1024) (e := .bf16) (Memref.whole cc0_scratch8) inb_S1x2048x1024_S1x2048x1024_0_0_0
    squeezes_S1x2048x1024_S2048x1024
    (View.write (Elt F) (((Memref.whole cc0_scratch8).slice (Rect.unit ![0, 0, 0] S1x2048x1024.size inb_S1x2048x1024_S1x2048x1024_0_0_0) p).squeeze
          S2048x1024 squeezes_S1x2048x1024_S2048x1024).view f
        (ReadAs.same.apply (View.read (Elt F) (((Memref.whole main_v13).slice (Rect.unit ![n, 0, 0] S1x2048x1024.size h) q).squeeze
          S2048x1024 squeezes_S1x2048x1024_S2048x1024).view w)) Finset.univ)
  have e2 := congrFun (e.symm.trans (View.read_write_univ _ _)) ((Shape.reshapeEquiv squeezes_S1x2048x1024_S2048x1024.numel_eq).symm y)
  rw [show Shape.reshapeEquiv squeezes_S1x2048x1024_S2048x1024.numel_eq ((Shape.reshapeEquiv squeezes_S1x2048x1024_S2048x1024.numel_eq).symm y) = y from Equiv.apply_symm_apply _ _] at e2
  refine e2.trans ?_
  show (w : S4x2048x1024.Idx → F .bf16) ((Rect.unit (s := S4x2048x1024) ![n, 0, 0] S1x2048x1024.size h).emb (Shape.reshapeEquiv squeezes_S1x2048x1024_S2048x1024.numel_eq ((Shape.reshapeEquiv squeezes_S1x2048x1024_S2048x1024.numel_eq).symm y))) = (w : S4x2048x1024.Idx → F .bf16) ((Rect.unit (s := S4x2048x1024) ![n, 0, 0] S1x2048x1024.size h).emb y)
  rw [show Shape.reshapeEquiv squeezes_S1x2048x1024_S2048x1024.numel_eq ((Shape.reshapeEquiv squeezes_S1x2048x1024_S2048x1024.numel_eq).symm y) = y from Equiv.apply_symm_apply _ _]

end Weights

/-! ## The rows sent back, and the result -/

section Rows
variable {F : FTy → Type} [FloatOps F]

/-- 512 rows of the tokens, of the keys, of the neighbour's tokens and of its keys. -/
noncomputable def xW (f : Vec F S2048x1024 .bf16) (o : ℕ) (h : ∀ a, (![o, 0] : Fin 2 → ℕ) a + S512x1024.size a ≤ S2048x1024.size a) : Vec F S512x1024 .bf16 :=
  VecWindow.window (s := S2048x1024) f ![o, 0] S512x1024.size h
noncomputable def kW (f : Vec F S2048x1 .bf16) (o : ℕ) (h : ∀ a, (![o, 0] : Fin 2 → ℕ) a + S512x1.size a ≤ S2048x1.size a) : Vec F S512x1 .bf16 :=
  VecWindow.window (s := S2048x1) f ![o, 0] S512x1.size h
noncomputable def pxW (f : Vec F S1152x1024 .bf16) (o : ℕ) (h : ∀ a, (![o, 0] : Fin 2 → ℕ) a + S512x1024.size a ≤ S1152x1024.size a) : Vec F S512x1024 .bf16 :=
  VecWindow.window (s := S1152x1024) f ![o, 0] S512x1024.size h
noncomputable def pkW (f : Vec F S1152x1 .bf16) (o : ℕ) (h : ∀ a, (![o, 0] : Fin 2 → ℕ) a + S512x1.size a ≤ S1152x1.size a) : Vec F S512x1 .bf16 :=
  VecWindow.window (s := S1152x1) f ![o, 0] S512x1.size h
/-- 512 rows of the result, and of the rows sent back. -/
noncomputable def oW (f : Vec F S2048x1024 .f32) (o : ℕ) (h : ∀ a, (![o, 0] : Fin 2 → ℕ) a + S512x1024.size a ≤ S2048x1024.size a) : Vec F S512x1024 .f32 :=
  VecWindow.window (s := S2048x1024) f ![o, 0] S512x1024.size h
noncomputable def bW (f : Vec F S1152x1024 .bf16) (o : ℕ) (h : ∀ a, (![o, 0] : Fin 2 → ℕ) a + S512x1024.size a ≤ S1152x1024.size a) : Vec F S512x1024 .bf16 :=
  VecWindow.window (s := S1152x1024) f ![o, 0] S512x1024.size h
/-- A block of 512 rows put over the result, and over the rows sent back. -/
noncomputable def oPut (f : Vec F S2048x1024 .f32) (o : ℕ) (w : Vec F S512x1024 .f32) : Vec F S2048x1024 .f32 :=
  VecWindow.put (s := S2048x1024) f ![o, 0] S512x1024.size w
noncomputable def bPut (f : Vec F S1152x1024 .bf16) (o : ℕ) (w : Vec F S512x1024 .bf16) : Vec F S1152x1024 .bf16 :=
  VecWindow.put (s := S1152x1024) f ![o, 0] S512x1024.size w

section Back
variable (px : Vec F S1152x1024 .bf16) (pk : Vec F S1152x1 .bf16) (w1 : Vec F S4x1024x2048 .bf16) (w2 : Vec F S4x2048x1024 .bf16)

/-- The rows sent back, after each of this device's experts has added its part. -/
noncomputable def sb1 : Vec F S1152x1024 .bf16 :=
  bPut k0_pay28 0 (k0_pay34 (pxW px 0 inb_S1152x1024_S512x1024_0_0) (pkW pk 0 inb_S1152x1_S512x1_0_0) (k0_pay33 (wA0 w1)) (wB0 w2)
    (bW k0_pay28 0 inb_S1152x1024_S512x1024_0_0))
noncomputable def sb2 : Vec F S1152x1024 .bf16 :=
  bPut (sb1 px pk w1 w2) 256 (k0_pay39 (k0_pay37 (pxW px 256 inb_S1152x1024_S512x1024_256_0) (wA1 w1) (wB1 w2)) (FloatOps.ofBits .f32 0x00000000#32)
    (k0_pay38 (pkW pk 256 inb_S1152x1_S512x1_256_0)) (bW (sb1 px pk w1 w2) 256 inb_S1152x1024_S512x1024_256_0))
noncomputable def sb3 : Vec F S1152x1024 .bf16 :=
  bPut (sb2 px pk w1 w2) 512 (k0_pay41 (pxW px 512 inb_S1152x1024_S512x1024_512_0) (pkW pk 512 inb_S1152x1_S512x1_512_0) (wA2 w1) (wB2 w2)
    (bW (sb2 px pk w1 w2) 512 inb_S1152x1024_S512x1024_512_0))
noncomputable def sbV : Vec F S1152x1024 .bf16 :=
  bPut (sb3 px pk w1 w2) 640 (k0_pay45 (k0_pay42 (pxW px 640 inb_S1152x1024_S512x1024_640_0) (wA3 w1) (wB3 w2))
    (k0_pay43 (pkW pk 640 inb_S1152x1_S512x1_640_0)) k0_pay44 (bW (sb3 px pk w1 w2) 640 inb_S1152x1024_S512x1024_640_0))
end Back

section Out
variable (xs : Vec F S2048x1024 .bf16) (ks : Vec F S2048x1 .bf16) (w1 : Vec F S4x1024x2048 .bf16) (w2 : Vec F S4x2048x1024 .bf16)

/-- The sorted result after each of this device's experts has added its part. -/
noncomputable def ob1 : Vec F S2048x1024 .f32 :=
  oPut k0_pay27 0 (k0_pay32 (k0_pay29 (xW xs 0 inb_S2048x1024_S512x1024_0_0) (wA0 w1) (wB0 w2)) (k0_pay30 (kW ks 0 inb_S2048x1_S512x1_0_0)) k0_pay31
    (oW k0_pay27 0 inb_S2048x1024_S512x1024_0_0))
noncomputable def ob2 : Vec F S2048x1024 .f32 :=
  oPut (ob1 xs ks w1 w2) 128 (k0_pay36 (k0_pay35 (xW xs 128 inb_S2048x1024_S512x1024_128_0) (kW ks 128 inb_S2048x1_S512x1_128_0) (wA1 w1) (wB1 w2))
    (oW (ob1 xs ks w1 w2) 128 inb_S2048x1024_S512x1024_128_0))
noncomputable def ob3 : Vec F S2048x1024 .f32 :=
  oPut (ob2 xs ks w1 w2) 384 (k0_pay40 (xW xs 384 inb_S2048x1024_S512x1024_384_0) (kW ks 384 inb_S2048x1_S512x1_384_0) (wA2 w1) (wB2 w2)
    (oW (ob2 xs ks w1 w2) 384 inb_S2048x1024_S512x1024_384_0))
noncomputable def ob4 : Vec F S2048x1024 .f32 :=
  oPut (ob3 xs ks w1 w2) 640 (k0_pay49 (k0_pay46 (xW xs 640 inb_S2048x1024_S512x1024_640_0) (wA3 w1) (wB3 w2))
    (k0_pay47 (kW ks 640 inb_S2048x1_S512x1_640_0)) k0_pay48 (oW (ob3 xs ks w1 w2) 640 inb_S2048x1024_S512x1024_640_0))
/-- With what came back from the neighbour added to the last 1152 rows. -/
noncomputable def obV (sb : Vec F S1152x1024 .bf16) : Vec F S2048x1024 .f32 :=
  VecWindow.put (s := S2048x1024) (ob4 xs ks w1 w2) ![896, 0] S1152x1024.size
    (k0_pay50 (VecWindow.window (s := S2048x1024) (ob4 xs ks w1 w2) ![896, 0] S1152x1024.size inb_S2048x1024_S1152x1024_896_0) sb)
end Out

/-- 512 of the places. -/
noncomputable def rW (f : Vec F S2048x1 .f32) (o : ℕ) (h : ∀ a, (![o, 0] : Fin 2 → ℕ) a + S512x1.size a ≤ S2048x1.size a) : Vec F S512x1 .f32 :=
  VecWindow.window (s := S2048x1) f ![o, 0] S512x1.size h

/-- The result: every token's row of the sorted result. -/
noncomputable def outV (r : Vec F S2048x1 .f32) (ob : Vec F S2048x1024 .f32) : Vec F S2048x1024 .f32 :=
  four 1024 ob (k0_pay52 k0_pay5 ob (rW r 0 inb_S2048x1_S512x1_0_0)) (k0_pay53 k0_pay5 (k0_pay51 ob) (rW r 512 inb_S2048x1_S512x1_512_0))
    (k0_pay54 k0_pay5 (k0_pay51 ob) (rW r 1024 inb_S2048x1_S512x1_1024_0)) (k0_pay55 k0_pay5 (k0_pay51 ob) (rW r 1536 inb_S2048x1_S512x1_1536_0))

end Rows

end Cert.MoE
end
-- ==== Proof.Stores.lean ====
module

public import proofs.«01_k».proof.Proof.Blocks

@[expose] public section

set_option maxRecDepth 16384

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## What the stores leave in the scratch buffers -/

theorem xs_stores (f : (cc0_scratch0 : Ref sig .tc).ty.Contents (Elt F)) (base : Vec F S2048x1024 .bf16) (a b c d : Vec F S512x1024 .bf16) :
    (Memref.whole cc0_scratch0).view.writes (Elt F) f
      [⟨Rect.unit ![1536, 0] S512x1024.size inb_S2048x1024_S512x1024_1536_0, d⟩, ⟨Rect.unit ![1024, 0] S512x1024.size inb_S2048x1024_S512x1024_1024_0, c⟩,
        ⟨Rect.unit ![512, 0] S512x1024.size inb_S2048x1024_S512x1024_512_0, b⟩, ⟨Rect.unit ![0, 0] S512x1024.size inb_S2048x1024_S512x1024_0_0, a⟩]
      = four 1024 base a b c d :=
  (View.read_whole _ _).symm.trans <| read_writes_four (Val := Elt F) (e := .bf16) 1024 (Memref.whole cc0_scratch0).view f base inb_S2048x1024_S512x1024_0_0 inb_S2048x1024_S512x1024_512_0
    inb_S2048x1024_S512x1024_1024_0 inb_S2048x1024_S512x1024_1536_0 a b c d

theorem ks_stores (f : (cc0_scratch1 : Ref sig .tc).ty.Contents (Elt F)) (base : Vec F S2048x1 .bf16) (a b c d : Vec F S512x1 .bf16) :
    (Memref.whole cc0_scratch1).view.writes (Elt F) f
      [⟨Rect.unit ![1536, 0] S512x1.size inb_S2048x1_S512x1_1536_0, d⟩, ⟨Rect.unit ![1024, 0] S512x1.size inb_S2048x1_S512x1_1024_0, c⟩,
        ⟨Rect.unit ![512, 0] S512x1.size inb_S2048x1_S512x1_512_0, b⟩, ⟨Rect.unit ![0, 0] S512x1.size inb_S2048x1_S512x1_0_0, a⟩]
      = four 1 base a b c d :=
  (View.read_whole _ _).symm.trans <| read_writes_four (Val := Elt F) (e := .bf16) 1 (Memref.whole cc0_scratch1).view f base inb_S2048x1_S512x1_0_0 inb_S2048x1_S512x1_512_0
    inb_S2048x1_S512x1_1024_0 inb_S2048x1_S512x1_1536_0 a b c d

theorem rank_store (f : (cc0_scratch2 : Ref sig .tc).ty.Contents (Elt F)) (w : Vec F S2048x1 .f32) :
    (Memref.whole cc0_scratch2).view.writes (Elt F) f [⟨Rect.unit ![0, 0] S2048x1.size inb_S2048x1_S2048x1_0_0, w⟩] = w :=
  (View.read_whole _ _).symm.trans <| View.read_writes_full (Val := Elt F) (s := S2048x1) (e := .f32) (Memref.whole cc0_scratch2).view f inb_S2048x1_S2048x1_0_0 w []

theorem rank_load (w : Vec F S2048x1 .f32) :
    (Memref.whole cc0_scratch2).view.readCov (Val := Elt F) [⟨Rect.unit ![0, 0] S2048x1.size inb_S2048x1_S2048x1_0_0, w⟩]
      (Rect.unit ![0, 0] S2048x1.size inb_S2048x1_S2048x1_0_0).toLoadRect = w :=
  View.readCov_full (Val := Elt F) (s := S2048x1) (e := .f32) (Memref.whole cc0_scratch2).view inb_S2048x1_S2048x1_0_0 inb_S2048x1_S2048x1_0_0 w []

theorem x_load (x : (cc0_stg0_0 : Ref sig .tc).ty.Contents (Elt F)) :
    (Memref.whole cc0_stg0_0).view.readAt (Elt F) (Rect.unit ![0, 0] S2048x1024.size inb_S2048x1024_S2048x1024_0_0).toLoadRect x = x :=
  View.readAt_full (s := S2048x1024) (e := .bf16) (Memref.whole cc0_stg0_0).view x inb_S2048x1024_S2048x1024_0_0

theorem k_load (k : (cc0_stg1_0 : Ref sig .tc).ty.Contents (Elt F)) :
    (Memref.whole cc0_stg1_0).view.readAt (Elt F) (Rect.unit ![0, 0] S2048x1.size inb_S2048x1_S2048x1_0_0).toLoadRect k = k :=
  View.readAt_full (s := S2048x1) (e := .f32) (Memref.whole cc0_stg1_0).view k inb_S2048x1_S2048x1_0_0

theorem xs_load (f : (cc0_scratch0 : Ref sig .tc).ty.Contents (Elt F)) (o : ℕ) (h : ∀ a, (![o, 0] : Fin 2 → ℕ) a + S512x1024.size a ≤ S2048x1024.size a) :
    (Memref.whole cc0_scratch0).view.readAt (Elt F) (Rect.unit (s := S2048x1024) ![o, 0] S512x1024.size h).toLoadRect f = xW f o h :=
  View.readAt_unit (Val := Elt F) (s := S2048x1024) (e := .bf16) (Memref.whole cc0_scratch0).view f h rfl h

theorem ks_load (f : (cc0_scratch1 : Ref sig .tc).ty.Contents (Elt F)) (o : ℕ) (h : ∀ a, (![o, 0] : Fin 2 → ℕ) a + S512x1.size a ≤ S2048x1.size a) :
    (Memref.whole cc0_scratch1).view.readAt (Elt F) (Rect.unit (s := S2048x1) ![o, 0] S512x1.size h).toLoadRect f = kW f o h :=
  View.readAt_unit (Val := Elt F) (s := S2048x1) (e := .bf16) (Memref.whole cc0_scratch1).view f h rfl h

theorem r_load (f : (cc0_scratch2 : Ref sig .tc).ty.Contents (Elt F)) (o : ℕ) (h : ∀ a, (![o, 0] : Fin 2 → ℕ) a + S512x1.size a ≤ S2048x1.size a) :
    (Memref.whole cc0_scratch2).view.readAt (Elt F) (Rect.unit (s := S2048x1) ![o, 0] S512x1.size h).toLoadRect f = rW f o h :=
  View.readAt_unit (Val := Elt F) (s := S2048x1) (e := .f32) (Memref.whole cc0_scratch2).view f h rfl h

theorem px_load (f : (cc0_scratch3 : Ref sig .tc).ty.Contents (Elt F)) (o : ℕ) (h : ∀ a, (![o, 0] : Fin 2 → ℕ) a + S512x1024.size a ≤ S1152x1024.size a) :
    (Memref.whole cc0_scratch3).view.readAt (Elt F) (Rect.unit (s := S1152x1024) ![o, 0] S512x1024.size h).toLoadRect f = pxW f o h :=
  View.readAt_unit (Val := Elt F) (s := S1152x1024) (e := .bf16) (Memref.whole cc0_scratch3).view f h rfl h

theorem pk_load (f : (cc0_scratch4 : Ref sig .tc).ty.Contents (Elt F)) (o : ℕ) (h : ∀ a, (![o, 0] : Fin 2 → ℕ) a + S512x1.size a ≤ S1152x1.size a) :
    (Memref.whole cc0_scratch4).view.readAt (Elt F) (Rect.unit (s := S1152x1) ![o, 0] S512x1.size h).toLoadRect f = pkW f o h :=
  View.readAt_unit (Val := Elt F) (s := S1152x1) (e := .bf16) (Memref.whole cc0_scratch4).view f h rfl h

theorem rb_load (f : (cc0_scratch6 : Ref sig .tc).ty.Contents (Elt F)) :
    (Memref.whole cc0_scratch6).view.readAt (Elt F) (Rect.unit (s := S1152x1024) ![0, 0] S1152x1024.size inb_S1152x1024_S1152x1024_0_0).toLoadRect f = f :=
  View.readAt_full (Val := Elt F) (s := S1152x1024) (e := .bf16) (Memref.whole cc0_scratch6).view f inb_S1152x1024_S1152x1024_0_0

/-! ## The same of the rows sent back and of the result, store by store -/

abbrev sbW : View sig .tc .vmem S1152x1024 .bf16 := (Memref.whole cc0_scratch5).view
abbrev oV : View sig .tc .vmem S2048x1024 .f32 := (Memref.whole cc0_stg2_0).view

theorem sb_full (w : Vec F S1152x1024 .bf16) (P : List (View.Piece (Elt F) S1152x1024 .bf16)) :
    Leaves sbW (⟨Rect.unit ![0, 0] S1152x1024.size inb_S1152x1024_S1152x1024_0_0, w⟩ :: P) w :=
  leaves_full (Val := Elt F) sbW inb_S1152x1024_S1152x1024_0_0 w P

theorem sb_put {P : List (View.Piece (Elt F) S1152x1024 .bf16)} {X : Vec F S1152x1024 .bf16} (h : Leaves sbW P X) (o : ℕ)
    (hi : ∀ a, (![o, 0] : Fin 2 → ℕ) a + S512x1024.size a ≤ S1152x1024.size a) (w : Vec F S512x1024 .bf16) :
    Leaves sbW (⟨Rect.unit ![o, 0] S512x1024.size hi, w⟩ :: P) (bPut X o w) :=
  leaves_put (Val := Elt F) sbW h hi w

theorem sb_load {P : List (View.Piece (Elt F) S1152x1024 .bf16)} {X : Vec F S1152x1024 .bf16} (h : Leaves sbW P X) (o : ℕ)
    (hi : ∀ a, (![o, 0] : Fin 2 → ℕ) a + S512x1024.size a ≤ S1152x1024.size a) :
    sbW.readCov P (Rect.unit (s := S1152x1024) ![o, 0] S512x1024.size hi).toLoadRect = bW X o hi :=
  leaves_load (Val := Elt F) sbW h hi

theorem sb_leaves {P : List (View.Piece (Elt F) S1152x1024 .bf16)} {X : Vec F S1152x1024 .bf16} (h : Leaves sbW P X) (f : (cc0_scratch5 : Ref sig .tc).ty.Contents (Elt F)) :
    sbW.writes (Elt F) f P = X := (View.read_whole _ _).symm.trans (h f)

theorem o_full (w : Vec F S2048x1024 .f32) (P : List (View.Piece (Elt F) S2048x1024 .f32)) :
    Leaves oV (⟨Rect.unit ![0, 0] S2048x1024.size inb_S2048x1024_S2048x1024_0_0, w⟩ :: P) w :=
  leaves_full (Val := Elt F) oV inb_S2048x1024_S2048x1024_0_0 w P

theorem o_put {P : List (View.Piece (Elt F) S2048x1024 .f32)} {X : Vec F S2048x1024 .f32} (h : Leaves oV P X) (o : ℕ)
    (hi : ∀ a, (![o, 0] : Fin 2 → ℕ) a + S512x1024.size a ≤ S2048x1024.size a) (w : Vec F S512x1024 .f32) :
    Leaves oV (⟨Rect.unit ![o, 0] S512x1024.size hi, w⟩ :: P) (oPut X o w) :=
  leaves_put (Val := Elt F) oV h hi w

theorem o_put_tail {P : List (View.Piece (Elt F) S2048x1024 .f32)} {X : Vec F S2048x1024 .f32} (h : Leaves oV P X) (w : Vec F S1152x1024 .f32) :
    Leaves oV (⟨Rect.unit ![896, 0] S1152x1024.size inb_S2048x1024_S1152x1024_896_0, w⟩ :: P)
      (VecWindow.put (s := S2048x1024) X ![896, 0] S1152x1024.size w) :=
  leaves_put (Val := Elt F) oV h inb_S2048x1024_S1152x1024_896_0 w

theorem o_load {P : List (View.Piece (Elt F) S2048x1024 .f32)} {X : Vec F S2048x1024 .f32} (h : Leaves oV P X) (o : ℕ)
    (hi : ∀ a, (![o, 0] : Fin 2 → ℕ) a + S512x1024.size a ≤ S2048x1024.size a) :
    oV.readCov P (Rect.unit (s := S2048x1024) ![o, 0] S512x1024.size hi).toLoadRect = oW X o hi :=
  leaves_load (Val := Elt F) oV h hi

theorem o_load_tail {P : List (View.Piece (Elt F) S2048x1024 .f32)} {X : Vec F S2048x1024 .f32} (h : Leaves oV P X) :
    oV.readCov P (Rect.unit (s := S2048x1024) ![896, 0] S1152x1024.size inb_S2048x1024_S1152x1024_896_0).toLoadRect
      = VecWindow.window (s := S2048x1024) X ![896, 0] S1152x1024.size inb_S2048x1024_S1152x1024_896_0 :=
  leaves_load (Val := Elt F) oV h inb_S2048x1024_S1152x1024_896_0

theorem o_load_all {P : List (View.Piece (Elt F) S2048x1024 .f32)} {X : Vec F S2048x1024 .f32} (h : Leaves oV P X) :
    oV.readCov P (Rect.unit (s := S2048x1024) ![0, 0] S2048x1024.size inb_S2048x1024_S2048x1024_0_0).toLoadRect = X :=
  (View.readAt_full (Val := Elt F) oV (oV.writes (Elt F) oV.junk P) inb_S2048x1024_S2048x1024_0_0).trans (h _)

/-- Four stores of 512 rows, one under the other, leave those four blocks, whatever was stored before. -/
theorem o_four {P : List (View.Piece (Elt F) S2048x1024 .f32)} {X : Vec F S2048x1024 .f32} (h : Leaves oV P X) (a b c d : Vec F S512x1024 .f32)
    (f : (cc0_stg2_0 : Ref sig .tc).ty.Contents (Elt F)) :
    oV.writes (Elt F) f (⟨Rect.unit ![1536, 0] S512x1024.size inb_S2048x1024_S512x1024_1536_0, d⟩ :: ⟨Rect.unit ![1024, 0] S512x1024.size inb_S2048x1024_S512x1024_1024_0, c⟩
        :: ⟨Rect.unit ![512, 0] S512x1024.size inb_S2048x1024_S512x1024_512_0, b⟩ :: ⟨Rect.unit ![0, 0] S512x1024.size inb_S2048x1024_S512x1024_0_0, a⟩ :: P)
      = four 1024 X a b c d :=
  (View.read_whole _ _).symm.trans (o_put (o_put (o_put (o_put h 0 _ a) 512 _ b) 1024 _ c) 1536 _ d f)

end Cert.MoE
end
-- ==== Proof.Body.lean ====
module

public import proofs.«01_k».proof.Proof.Sends
public import proofs.«01_k».proof.Proof.Stores

@[expose] public section

set_option maxRecDepth 16384

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Arrays F)

/-- The invariants that device `c` opens. -/
def invs (K : GSem nD τ sig → ℕ) (c : Dev nD) : sProp 𝕄 :=
  iprop(cellInv ER (talk A) (K (barCell c)) (barCell c)
    ∗ cellInv ER (talk A) (K (dmaCell c sx0)) (dmaCell c sx0) ∗ cellInv ER (talk A) (K (dmaCell c sx1)) (dmaCell c sx1)
    ∗ cellInv ER (talk A) (K (dmaCell c rx0)) (dmaCell c rx0) ∗ cellInv ER (talk A) (K (dmaCell c rx1)) (dmaCell c rx1)
    ∗ cellInv ER (talk A) (K (dmaCell c sk)) (dmaCell c sk) ∗ cellInv ER (talk A) (K (dmaCell c rk)) (dmaCell c rk)
    ∗ cellInv ER (talk A) (K (dmaCell c sp)) (dmaCell c sp) ∗ cellInv ER (talk A) (K (dmaCell c rp)) (dmaCell c rp)
    ∗ cellInv ER (talk A) (K (barCell (pr c))) (barCell (pr c))
    ∗ cellInv ER (talk A) (K (dmaCell (pr c) rx0)) (dmaCell (pr c) rx0) ∗ cellInv ER (talk A) (K (dmaCell (pr c) rx1)) (dmaCell (pr c) rx1)
    ∗ cellInv ER (talk A) (K (dmaCell (pr c) rk)) (dmaCell (pr c) rk) ∗ cellInv ER (talk A) (K (dmaCell (pr c) rp)) (dmaCell (pr c) rp))

instance invs_persistent (K : GSem nD τ sig → ℕ) (c : Dev nD) : BI.Persistent (invs A K c) := by unfold invs; infer_instance

/-- The duty tokens that device `c` pays with. -/
def toks (c : Dev nD) : sProp 𝕄 :=
  iprop(dutyTok ER (barCell (pr c)) 0 () ∗ dutyTok ER (dmaCell (pr c) rk) 0 () ∗ dutyTok ER (dmaCell (pr c) rx0) 0 () ∗ dutyTok ER (dmaCell (pr c) rx1) 0 ()
    ∗ dutyTok ER (dmaCell (pr c) rp) 0 ()
    ∗ dutyTok ER (dmaCell c sk) 0 () ∗ dutyTok ER (dmaCell c sx0) 0 () ∗ dutyTok ER (dmaCell c sx1) 0 () ∗ dutyTok ER (dmaCell c sp) 0 ())

/-- The credit that device `c` waits with. -/
def creds (c : Dev nD) : sProp 𝕄 :=
  iprop(cred (tallyAt (barCell c) () 1) ∗ cred (tallyAt (dmaCell c rk) () NK) ∗ cred (tallyAt (dmaCell c rx0) () NX0) ∗ cred (tallyAt (dmaCell c rx1) () NX1)
    ∗ cred (tallyAt (dmaCell c rp) () NP))

def opened (K : GSem nD τ sig → ℕ) (c : Dev nD) : sProp 𝕄 :=
  iprop(invs A K c ∗ toks c
    ∗ (atPos ER (barCell c) 0 ∅ 0
      ∗ atPos ER (dmaCell c sx0) 0 ∅ 0 ∗ atPos ER (dmaCell c sx1) 0 ∅ 0 ∗ atPos ER (dmaCell c rx0) 0 ∅ 0 ∗ atPos ER (dmaCell c rx1) 0 ∅ 0
      ∗ atPos ER (dmaCell c sk) 0 ∅ 0 ∗ atPos ER (dmaCell c rk) 0 ∅ 0 ∗ atPos ER (dmaCell c sp) 0 ∅ 0 ∗ atPos ER (dmaCell c rp) 0 ∅ 0)
    ∗ (reached ER (barCell (pr c)) 0
      ∗ reached ER (dmaCell c sx0) 0 ∗ reached ER (dmaCell c sx1) 0 ∗ reached ER (dmaCell c sk) 0 ∗ reached ER (dmaCell c sp) 0
      ∗ reached ER (dmaCell c rx0) 0 ∗ reached ER (dmaCell c rx1) 0 ∗ reached ER (dmaCell c rk) 0 ∗ reached ER (dmaCell c rp) 0))

theorem sb_whole (c : Dev nD) (f : (cc0_scratch5 : Ref sig .tc).ty.Contents (Elt F)) :
    (pt c cc0_scratch5 f : sProp 𝕄) ⊢ sbM.view.loc (c : Thread nD τ) ↦[sbM.view.set]{fullShare} f := by
  rw [show sbM.view.set = Finset.univ from View.set_whole _]

/-- What device `c` holds when its kernel is done: every counter at zero, the arguments as they were, the result, nothing owed. -/
def after (c : Dev nD) (x : (cc0_stg0_0 : Ref sig .tc).ty.Contents (Elt F)) (k : (cc0_stg1_0 : Ref sig .tc).ty.Contents (Elt F))
    (w1 : (main_v12 : Ref sig .tc).ty.Contents (Elt F)) (w2 : (main_v13 : Ref sig .tc).ty.Contents (Elt F)) (out : (cc0_stg2_0 : Ref sig .tc).ty.Contents (Elt F)) : sProp 𝕄 :=
  iprop((semVal (barCell c) 0 ∗ semVal (dmaCell c sx0) 0 ∗ semVal (dmaCell c sx1) 0 ∗ semVal (dmaCell c rx0) 0 ∗ semVal (dmaCell c rx1) 0
      ∗ semVal (dmaCell c sk) 0 ∗ semVal (dmaCell c rk) 0 ∗ semVal (dmaCell c sp) 0 ∗ semVal (dmaCell c rp) 0
      ∗ semVal ((c : Thread nD τ), .dma 11) 0 ∗ semVal ((c : Thread nD τ), .dma 12) 0)
    ∗ (pt c cc0_stg0_0 x ∗ pt c cc0_stg1_0 k ∗ pt c cc0_stg2_0 out ∗ pt c main_v12 w1 ∗ pt c main_v13 w2)
    ∗ ((∃ f, pt c cc0_scratch0 f) ∗ (∃ f, pt c cc0_scratch1 f) ∗ (∃ f, pt c cc0_scratch2 f) ∗ (∃ f, pt c cc0_scratch3 f) ∗ (∃ f, own pkM c f)
      ∗ (∃ f, own sbM c f) ∗ (∃ f, own rbM c f) ∗ (∃ f, pt c cc0_scratch7 f) ∗ (∃ f, pt c cc0_scratch8 f))
    ∗ ∃ W, owes (c : Thread nD τ) (0 : CellTallies nD τ sig Unit) W)

theorem close (K : GSem nD τ sig → ℕ) (g : GSem nD τ sig) : iprop(cellInv ER (talk A) (K g) g ∗ atPos ER g 1 ∅ 0) ⊢ (|={Set.univ}=> semVal g 0 : sProp 𝕄) :=
  Rounds.cell_close ER (talk A) (Set.mem_univ (K g)) id (duties_later A g)

set_option maxHeartbeats 4000000 in
theorem bodyRun (K : GSem nD τ sig → ℕ) (c : Dev nD) (W : Waits sig Unit) (Kt : PUnit → sProp 𝕄)
    (x : (cc0_stg0_0 : Ref sig .tc).ty.Contents (Elt F)) (k : (cc0_stg1_0 : Ref sig .tc).ty.Contents (Elt F)) (o : (cc0_stg2_0 : Ref sig .tc).ty.Contents (Elt F))
    (w1 : (main_v12 : Ref sig .tc).ty.Contents (Elt F)) (w2 : (main_v13 : Ref sig .tc).ty.Contents (Elt F))
    (s0 : (cc0_scratch0 : Ref sig .tc).ty.Contents (Elt F)) (s1 : (cc0_scratch1 : Ref sig .tc).ty.Contents (Elt F)) (s2 : (cc0_scratch2 : Ref sig .tc).ty.Contents (Elt F))
    (s3 : (cc0_scratch3 : Ref sig .tc).ty.Contents (Elt F)) (s4 : (cc0_scratch4 : Ref sig .tc).ty.Contents (Elt F)) (s5 : (cc0_scratch5 : Ref sig .tc).ty.Contents (Elt F))
    (s6 : (cc0_scratch6 : Ref sig .tc).ty.Contents (Elt F)) (s7 : (cc0_scratch7 : Ref sig .tc).ty.Contents (Elt F)) (s8 : (cc0_scratch8 : Ref sig .tc).ty.Contents (Elt F))
    (hx : A.xs c = xsV x k) (hk : A.ks c = ksV k) (hs : A.sb c = sbV (tailX (A.xs (pr c))) (tailK (A.ks (pr c))) w1 w2) :
    iprop(opened A K c ∗ creds c ∗ levAts L lv ∗ semVal ((c : Thread nD τ), .dma 11) 0 ∗ semVal ((c : Thread nD τ), .dma 12) 0
        ∗ pt c cc0_stg0_0 x ∗ pt c cc0_stg1_0 k ∗ pt c cc0_stg2_0 o ∗ pt c main_v12 w1 ∗ pt c main_v13 w2
        ∗ pt c cc0_scratch0 s0 ∗ pt c cc0_scratch1 s1 ∗ pt c cc0_scratch2 s2 ∗ own pxS0 c s3 ∗ own pxS1 c s3 ∗ own pkM c s4 ∗ pt c cc0_scratch5 s5
        ∗ own rbM c s6 ∗ pt c cc0_scratch7 s7 ∗ pt c cc0_scratch8 s8 ∗ owes (c : Thread nD τ) (O₀ c) W
        ∗ (after c x k w1 w2 (outV (rankV k) (obV (A.xs c) (A.ks c) w1 w2 (A.sb (pr c)))) -∗ Kt ⟨⟩))
      ⊢ wp frame (wpE (defs₀ (F := F)) 𝒱₀ c none) Set.univ (bodyAt0 (F := F) t0_0) Kt := by
  unfold opened toks creds invs O₀
  iintro ⟨⟨⟨#HIb, #HIsx0, #HIsx1, #HIrx0, #HIrx1, #HIsk, #HIrk, #HIsp, #HIrp, #HIbP, #HIrx0P, #HIrx1P, #HIrkP, #HIrpP⟩,
    ⟨HtbP, HtrkP, Htrx0P, Htrx1P, HtrpP, Htsk, Htsx0, Htsx1, Htsp⟩,
    ⟨Hab, Hasx0, Hasx1, Harx0, Harx1, Hask, Hark, Hasp, Harp⟩,
    ⟨#HrbP, #Hrsx0, #Hrsx1, #Hrsk, #Hrsp, #Hrrx0, #Hrrx1, #Hrrk, #Hrrp⟩⟩,
    ⟨Hcb, Hcrk, Hcrx0, Hcrx1, Hcrp⟩, #Hlev, Hw0, Hw1, Hx, Hk, Ho, HW1, HW2, Hxs, Hks, Hrk, Hpx0, Hpx1, Hpk, Hsb, Hrb, Hw1b, Hw2b, HO, Hend⟩
  unfold bodyAt0
  have hd1 := dev1_eq c
  have hd2 := dev2_eq c
  have hd3 := dev3_eq c
  have hd4 := dev4_eq c
  have hd5 := dev5_eq c
  have hmb := mayWait_of (F := F) c (.reg barS) _ (above_add (above_add (above_add (above_tally _ (pr c) (.dma rp) NP (by decide)) (above_tally _ (pr c) (.dma rx1) NX1 (by decide)))
    (above_tally _ (pr c) (.dma rx0) NX0 (by decide))) (above_tally _ (pr c) (.dma rk) NK (by decide)))
  have hpP := payload_barP A c ()
  have hpB := payload_bar A c ()
  set_option sl_exec.stopBefore "k0_part7" in sl_exec
  have eV : bodyRun.sl.v118 k = rankV k := by
    unfold bodyRun.sl.v118 bodyRun.sl.Hrk_1 bodyRun.sl.r_2 bodyRun.sl.r_3 bodyRun.sl.r_4 bodyRun.sl.r_5 bodyRun.sl.cst_31 bodyRun.sl.r_1
    rw [rank_load, k_load]
    rfl
  have eR : (Memref.whole cc0_scratch2).view.writes (Elt F) s2 (bodyRun.sl.Hrk_1 k) = rankV k := by
    rw [← eV]
    unfold bodyRun.sl.v118 bodyRun.sl.Hrk_1
    rw [rank_load, rank_store]
  rw [eR, xs_stores s0 x, ks_stores s1 (fun _ => Scalar.ofBits .bf16 0x0000#16)]
  rw [show four 1024 x _ _ _ _ = xsV x k from ?eX]
  case eX =>
    unfold bodyRun.sl.r_7 bodyRun.sl.r_8 bodyRun.sl.cst_47 xsV
    rw [eV, x_load]
  rw [show four 1 (fun _ => Scalar.ofBits .bf16 0x0000#16) _ _ _ _ = ksV k from ?eK]
  case eK =>
    unfold bodyRun.sl.r_6 bodyRun.sl.r_8 bodyRun.sl.r bodyRun.sl.cst_47 ksV
    rw [eV, k_load]
  rw [← hx, ← hk]
  icases Hab_pay5 with #HrrkP
  icases Hab_pay6 with #Hrrx0P
  icases Hab_pay7 with #Hrrx1P
  icases Hab_pay8 with #HrrpP
  ihave Hx3 := (xs_lend c (A.xs c)).1 $$ Hxs
  ihave Hk3 := (ks_lend c (A.ks c)).1 $$ Hks
  icases Hx3 with ⟨HxL0, HxL1, HxL2, Hxs⟩
  icases Hk3 with ⟨HkL0, HkL1, Hks⟩
  set_option sl_exec.stopBefore "k0_part8" in sl_exec
  iapply (wp_send_to A K c _ rfl ksS pkM sk rk fullShare.left (A.ks c) Hab_pay1_v NK rfl (duties_sk A c) (duties_rk A (pr c)) (amount_sk A c ()) (amount_rk A (pr c) ())
    (Entails.of_eq (payload_sk A c ()).symm) (pay_k A c _) _ _ rfl _) $$ [HkL0 Hab_pay1 HO Htsk HtrkP]
  · isplitr; · iexact HIsk
    isplitr; · iexact HIrkP
    isplitl [HkL0]; · iexact HkL0
    isplitl [Hab_pay1]; · iexact Hab_pay1
    isplitl [HO]; · iexact HO
    isplitl [Htsk]; · iexact Htsk
    isplitr; · iexact Hrsk
    isplitl [HtrkP]; · iexact HtrkP
    iexact HrrkP
  iintro ⟨Hcsk, HO⟩
  sl_exec
  iapply (wp_send_to A K c _ rfl xsS0 pxS0 sx0 rx0 fullShare.left (A.xs c) Hab_pay2_v NX0 rfl (duties_sx0 A c) (duties_rx0 A (pr c)) (amount_sx0 A c ()) (amount_rx0 A (pr c) ())
    (Entails.of_eq (payload_sx0 A c ()).symm) (pay_x0 A c _) _ _ rfl _) $$ [HxL0 Hab_pay2 HO Htsx0 Htrx0P]
  · isplitr; · iexact HIsx0
    isplitr; · iexact HIrx0P
    isplitl [HxL0]; · iexact HxL0
    isplitl [Hab_pay2]; · iexact Hab_pay2
    isplitl [HO]; · iexact HO
    isplitl [Htsx0]; · iexact Htsx0
    isplitr; · iexact Hrsx0
    isplitl [Htrx0P]; · iexact Htrx0P
    iexact Hrrx0P
  iintro ⟨Hcsx0, HO⟩
  sl_exec
  iapply (wp_send_to A K c _ rfl xsS1 pxS1 sx1 rx1 fullShare.left (A.xs c) Hab_pay3_v NX1 rfl (duties_sx1 A c) (duties_rx1 A (pr c)) (amount_sx1 A c ()) (amount_rx1 A (pr c) ())
    (Entails.of_eq (payload_sx1 A c ()).symm) (pay_x1 A c _) _ _ rfl _) $$ [HxL1 Hab_pay3 HO Htsx1 Htrx1P]
  · isplitr; · iexact HIsx1
    isplitr; · iexact HIrx1P
    isplitl [HxL1]; · iexact HxL1
    isplitl [Hab_pay3]; · iexact Hab_pay3
    isplitl [HO]; · iexact HO
    isplitl [Htsx1]; · iexact Htsx1
    isplitr; · iexact Hrsx1
    isplitl [Htrx1P]; · iexact Htrx1P
    iexact Hrrx1P
  iintro ⟨Hcsx1, HO⟩
  have hm11 := mayWait_of (F := F) c (.dma 11) _ (above_tally _ (pr c) (.dma rp) NP (by decide))
  have hm12 := mayWait_of (F := F) c (.dma 12) _ (above_tally _ (pr c) (.dma rp) NP (by decide))
  have hmrk := mayWait_of (F := F) c (.dma rk) _ (above_tally _ (pr c) (.dma rp) NP (by decide))
  have hmrx0 := mayWait_of (F := F) c (.dma rx0) _ (above_tally _ (pr c) (.dma rp) NP (by decide))
  have hmrx1 := mayWait_of (F := F) c (.dma rx1) _ (above_tally _ (pr c) (.dma rp) NP (by decide))
  sl_exec
  ihave Hpx := (px_windows c (tailX (A.xs (pr c)))).2 $$ [Harx0_pay1 Harx1_pay1]
  · isplitl [Harx0_pay1]; · iexact Harx0_pay1
    iexact Harx1_pay1
  unfold pt
  sl_exec
  have a0 : bodyRun.sl.v277 w1 s7 = wA0 w1 := by unfold bodyRun.sl.v277 bodyRun.sl.dma0; exact wA_load w1 _ 0 _ _ _
  have a1 : bodyRun.sl.v364 w1 s7 = wA1 w1 := by unfold bodyRun.sl.v364 bodyRun.sl.dma18; exact wA_load w1 _ 1 _ _ _
  have a1' : bodyRun.sl.v395 w1 s7 = wA1 w1 := by unfold bodyRun.sl.v395 bodyRun.sl.dma18; exact wA_load w1 _ 1 _ _ _
  have a2 : bodyRun.sl.v442 w1 s7 = wA2 w1 := by unfold bodyRun.sl.v442 bodyRun.sl.dma7; exact wA_load w1 _ 2 _ _ _
  have a3 : bodyRun.sl.v510 w1 s7 = wA3 w1 := by unfold bodyRun.sl.v510 bodyRun.sl.dma21; exact wA_load w1 _ 3 _ _ _
  have b0 : bodyRun.sl.v283 w2 s8 = wB0 w2 := by unfold bodyRun.sl.v283 bodyRun.sl.dma0_1; exact wB_load w2 _ 0 _ _ _
  have b1 : bodyRun.sl.v370 w2 s8 = wB1 w2 := by unfold bodyRun.sl.v370 bodyRun.sl.dma18_1; exact wB_load w2 _ 1 _ _ _
  have b1' : bodyRun.sl.v401 w2 s8 = wB1 w2 := by unfold bodyRun.sl.v401 bodyRun.sl.dma18_1; exact wB_load w2 _ 1 _ _ _
  have b2 : bodyRun.sl.v448 w2 s8 = wB2 w2 := by unfold bodyRun.sl.v448 bodyRun.sl.dma7_1; exact wB_load w2 _ 2 _ _ _
  have b3 : bodyRun.sl.v516 w2 s8 = wB3 w2 := by unfold bodyRun.sl.v516 bodyRun.sl.dma21_1; exact wB_load w2 _ 3 _ _ _
  rw [show (Memref.whole cc0_scratch5).view.writes (Elt F) s5 _ = A.sb c from ?eS]
  case eS =>
    have lb1 : Leaves sbW (bodyRun.sl.Hsb_1 (F := F)) k0_pay28 := by unfold bodyRun.sl.Hsb_1; exact sb_full _ _
    have e333 : bodyRun.sl.v333 (F := F) = bW k0_pay28 0 inb_S1152x1024_S512x1024_0_0 := by unfold bodyRun.sl.v333; exact sb_load lb1 0 _
    have s1 : k0_pay34 (bodyRun.sl.r_11 A c) (bodyRun.sl.r_12 A c) (bodyRun.sl.r_13 w1 s7) (bodyRun.sl.v283 w2 s8) bodyRun.sl.v333
        = k0_pay34 (pxW (tailX (A.xs (pr c))) 0 inb_S1152x1024_S512x1024_0_0) (pkW (tailK (A.ks (pr c))) 0 inb_S1152x1_S512x1_0_0) (k0_pay33 (wA0 w1)) (wB0 w2)
          (bW k0_pay28 0 inb_S1152x1024_S512x1024_0_0) := by
      rw [e333, b0]; unfold bodyRun.sl.r_11 bodyRun.sl.r_12 bodyRun.sl.r_13; rw [a0, px_load, pk_load]
    have lb2 : Leaves sbW _ (sb1 (tailX (A.xs (pr c))) (tailK (A.ks (pr c))) w1 w2) := (congrArg (bPut k0_pay28 0) s1) ▸ sb_put lb1 0 inb_S1152x1024_S512x1024_0_0
      (k0_pay34 (bodyRun.sl.r_11 A c) (bodyRun.sl.r_12 A c) (bodyRun.sl.r_13 w1 s7) (bodyRun.sl.v283 w2 s8) bodyRun.sl.v333)
    have e411 : bodyRun.sl.v411 A c w1 w2 s7 s8 = bW (sb1 (tailX (A.xs (pr c))) (tailK (A.ks (pr c))) w1 w2) 256 inb_S1152x1024_S512x1024_256_0 := by unfold bodyRun.sl.v411; exact sb_load lb2 256 _
    have s2 : bPut (sb1 (tailX (A.xs (pr c))) (tailK (A.ks (pr c))) w1 w2) 256 (k0_pay39 (bodyRun.sl.r_15 A c w1 w2 s7 s8) bodyRun.sl.cst_264 (bodyRun.sl.r_16 A c) (bodyRun.sl.v411 A c w1 w2 s7 s8))
        = sb2 (tailX (A.xs (pr c))) (tailK (A.ks (pr c))) w1 w2 := by
      rw [e411]; unfold bodyRun.sl.r_15 bodyRun.sl.r_16 bodyRun.sl.cst_264 sb2; rw [a1', b1', px_load, pk_load]
    have lb3 : Leaves sbW (bodyRun.sl.Hsb_3 A c w1 w2 s7 s8) (sb2 (tailX (A.xs (pr c))) (tailK (A.ks (pr c))) w1 w2) := by
      unfold bodyRun.sl.Hsb_3; rw [← s2]; exact sb_put lb2 256 _ _
    have e479 : bodyRun.sl.v479 A c w1 w2 s7 s8 = bW (sb2 (tailX (A.xs (pr c))) (tailK (A.ks (pr c))) w1 w2) 512 inb_S1152x1024_S512x1024_512_0 := by unfold bodyRun.sl.v479; exact sb_load lb3 512 _
    have s3 : bPut (sb2 (tailX (A.xs (pr c))) (tailK (A.ks (pr c))) w1 w2) 512 (k0_pay41 (bodyRun.sl.r_17 A c) (bodyRun.sl.r_18 A c) (bodyRun.sl.v442 w1 s7) (bodyRun.sl.v448 w2 s8) (bodyRun.sl.v479 A c w1 w2 s7 s8))
        = sb3 (tailX (A.xs (pr c))) (tailK (A.ks (pr c))) w1 w2 := by
      rw [e479, a2, b2]; unfold bodyRun.sl.r_17 bodyRun.sl.r_18 sb3; rw [px_load, pk_load]
    have lb4 : Leaves sbW (bodyRun.sl.Hsb_4 A c w1 w2 s7 s8) (sb3 (tailX (A.xs (pr c))) (tailK (A.ks (pr c))) w1 w2) := by
      unfold bodyRun.sl.Hsb_4; rw [← s3]; exact sb_put lb3 512 _ _
    have e526 : bodyRun.sl.v526 A c w1 w2 s7 s8 = bW (sb3 (tailX (A.xs (pr c))) (tailK (A.ks (pr c))) w1 w2) 640 inb_S1152x1024_S512x1024_640_0 := by unfold bodyRun.sl.v526; exact sb_load lb4 640 _
    have s4 : bPut (sb3 (tailX (A.xs (pr c))) (tailK (A.ks (pr c))) w1 w2) 640 (k0_pay45 (bodyRun.sl.r_19 A c w1 w2 s7 s8) (bodyRun.sl.r_20 A c) k0_pay44 (bodyRun.sl.v526 A c w1 w2 s7 s8))
        = sbV (tailX (A.xs (pr c))) (tailK (A.ks (pr c))) w1 w2 := by
      rw [e526]; unfold bodyRun.sl.r_19 bodyRun.sl.r_20 sbV; rw [a3, b3, px_load, pk_load]
    rw [hs, ← s4]
    exact sb_leaves (sb_put lb4 640 _ _) s5
  ihave Hsb := (sb_whole c (A.sb c)) $$ Hsb
  iapply (wp_send_to A K c _ rfl sbM rbM sp rp fullShare (A.sb c) Hab_pay4_v NP rfl (duties_sp A c) (duties_rp A (pr c)) (amount_sp A c ()) (amount_rp A (pr c) ())
    (Entails.of_eq (payload_sp A c ()).symm) (pay_p A c _) _ 0 (zero_add _).symm _) $$ [Hsb Hab_pay4 HO Htsp HtrpP]
  · isplitr; · iexact HIsp
    isplitr; · iexact HIrpP
    isplitl [Hsb]; · iexact Hsb
    isplitl [Hab_pay4]; · iexact Hab_pay4
    isplitl [HO]; · iexact HO
    isplitl [Htsp]; · iexact Htsp
    isplitr; · iexact Hrsp
    isplitl [HtrpP]; · iexact HtrpP
    iexact HrrpP
  iintro ⟨Hcsp, HO⟩
  sl_exec
  rw [show (Memref.whole cc0_stg2_0).view.writes (Elt F) o _ = outV (rankV k) (obV (A.xs c) (A.ks c) w1 w2 (A.sb (pr c))) from ?eO]
  case eO =>
    have lo1 : Leaves oV (bodyRun.sl.Ho_1 (F := F)) k0_pay27 := by unfold bodyRun.sl.Ho_1; exact o_full _ _
    have e292 : bodyRun.sl.v292 (F := F) = oW k0_pay27 0 inb_S2048x1024_S512x1024_0_0 := by unfold bodyRun.sl.v292; exact o_load lo1 0 _
    have t1 : oPut k0_pay27 0 (k0_pay32 (bodyRun.sl.r_9 A c w1 w2 s7 s8) (bodyRun.sl.r_10 A c) k0_pay31 bodyRun.sl.v292) = ob1 (A.xs c) (A.ks c) w1 w2 := by
      rw [e292]; unfold bodyRun.sl.r_9 bodyRun.sl.r_10 ob1; rw [a0, b0, xs_load, ks_load]
    have lo2 : Leaves oV (bodyRun.sl.Ho_2 A c w1 w2 s7 s8) (ob1 (A.xs c) (A.ks c) w1 w2) := by unfold bodyRun.sl.Ho_2; rw [← t1]; exact o_put lo1 0 _ _
    have e379 : bodyRun.sl.v379 A c w1 w2 s7 s8 = oW (ob1 (A.xs c) (A.ks c) w1 w2) 128 inb_S2048x1024_S512x1024_128_0 := by unfold bodyRun.sl.v379; exact o_load lo2 128 _
    have t2 : oPut (ob1 (A.xs c) (A.ks c) w1 w2) 128 (k0_pay36 (bodyRun.sl.r_14 A c w1 w2 s7 s8) (bodyRun.sl.v379 A c w1 w2 s7 s8)) = ob2 (A.xs c) (A.ks c) w1 w2 := by
      rw [e379]; unfold bodyRun.sl.r_14 ob2; rw [a1, b1, xs_load, ks_load]
    have lo3 : Leaves oV _ (ob2 (A.xs c) (A.ks c) w1 w2) := t2 ▸ o_put lo2 128 inb_S2048x1024_S512x1024_128_0 (k0_pay36 (bodyRun.sl.r_14 A c w1 w2 s7 s8) (bodyRun.sl.v379 A c w1 w2 s7 s8))
    have e457 : bodyRun.sl.v457 A c w1 w2 s7 s8 = oW (ob2 (A.xs c) (A.ks c) w1 w2) 384 inb_S2048x1024_S512x1024_384_0 := by unfold bodyRun.sl.v457; exact o_load lo3 384 _
    have t3 : oPut (ob2 (A.xs c) (A.ks c) w1 w2) 384 (k0_pay40 (View.readAt (Elt F) (Memref.whole cc0_scratch0).view (Rect.unit (s := S2048x1024) ![384, 0] S512x1024.size inb_S2048x1024_S512x1024_384_0).toLoadRect (A.1 c))
        (View.readAt (Elt F) (Memref.whole cc0_scratch1).view (Rect.unit (s := S2048x1) ![384, 0] S512x1.size inb_S2048x1_S512x1_384_0).toLoadRect (A.2 c))
        (bodyRun.sl.v442 w1 s7) (bodyRun.sl.v448 w2 s8) (bodyRun.sl.v457 A c w1 w2 s7 s8)) = ob3 (A.xs c) (A.ks c) w1 w2 := by
      rw [e457, a2, b2]; unfold ob3; rw [xs_load, ks_load]
    have lo4 : Leaves oV _ (ob3 (A.xs c) (A.ks c) w1 w2) := t3 ▸ o_put lo3 384 inb_S2048x1024_S512x1024_384_0 _
    have e558 : bodyRun.sl.v558 A c w1 w2 s7 s8 = oW (ob3 (A.xs c) (A.ks c) w1 w2) 640 inb_S2048x1024_S512x1024_640_0 := by unfold bodyRun.sl.v558; exact o_load lo4 640 _
    have t4 : oPut (ob3 (A.xs c) (A.ks c) w1 w2) 640 (k0_pay49 (bodyRun.sl.r_21 A c w1 w2) (bodyRun.sl.r_22 A c) k0_pay48 (bodyRun.sl.v558 A c w1 w2 s7 s8)) = ob4 (A.xs c) (A.ks c) w1 w2 := by
      rw [e558]; unfold bodyRun.sl.r_21 bodyRun.sl.r_22 ob4; rw [xs_load, ks_load]
    have lo5 : Leaves oV (bodyRun.sl.Ho_5 A c w1 w2 s7 s8) (ob4 (A.xs c) (A.ks c) w1 w2) := by unfold bodyRun.sl.Ho_5; rw [← t4]; exact o_put lo4 640 _ _
    have e570 : bodyRun.sl.v570 A c w1 w2 s7 s8 = VecWindow.window (s := S2048x1024) (ob4 (A.xs c) (A.ks c) w1 w2) ![896, 0] S1152x1024.size inb_S2048x1024_S1152x1024_896_0 := by
      unfold bodyRun.sl.v570; exact o_load_tail lo5
    have lo6 : Leaves oV (bodyRun.sl.Ho_6 A c w1 w2 s7 s8) (obV (A.xs c) (A.ks c) w1 w2 (A.sb (pr c))) := by
      unfold bodyRun.sl.Ho_6 obV; rw [e570, rb_load]; exact o_put_tail lo5 _
    have e576 : bodyRun.sl.v576 A c w1 w2 s7 s8 = obV (A.xs c) (A.ks c) w1 w2 (A.sb (pr c)) := by unfold bodyRun.sl.v576; exact o_load_all lo6
    refine (o_four lo6 _ _ _ _ o).trans ?_
    unfold bodyRun.sl.r_23 bodyRun.sl.r_24 bodyRun.sl.r_25 outV
    rw [e576, r_load, r_load, r_load, r_load]
  rw [wp_ret]
  imod (close A K (barCell c)) $$ [Hab] with HzHb
  · isplitr; · iexact HIb
    iexact Hab
  imod (close A K (dmaCell c sx0)) $$ [Hasx0] with HzHsx0
  · isplitr; · iexact HIsx0
    iexact Hasx0
  imod (close A K (dmaCell c sx1)) $$ [Hasx1] with HzHsx1
  · isplitr; · iexact HIsx1
    iexact Hasx1
  imod (close A K (dmaCell c rx0)) $$ [Harx0] with HzHrx0
  · isplitr; · iexact HIrx0
    iexact Harx0
  imod (close A K (dmaCell c rx1)) $$ [Harx1] with HzHrx1
  · isplitr; · iexact HIrx1
    iexact Harx1
  imod (close A K (dmaCell c sk)) $$ [Hask] with HzHsk
  · isplitr; · iexact HIsk
    iexact Hask
  imod (close A K (dmaCell c rk)) $$ [Hark] with HzHrk
  · isplitr; · iexact HIrk
    iexact Hark
  imod (close A K (dmaCell c sp)) $$ [Hasp] with HzHsp
  · isplitr; · iexact HIsp
    iexact Hasp
  imod (close A K (dmaCell c rp)) $$ [Harp] with HzHrp
  · isplitr; · iexact HIrp
    iexact Harp
  ihave Hxs := (xs_lend c (A.xs c)).2 $$ [Hasx0_pay1 Hasx1_pay1 HxL2 Hxs]
  · isplitl [Hasx0_pay1]; · iexact Hasx0_pay1
    isplitl [Hasx1_pay1]; · iexact Hasx1_pay1
    isplitl [HxL2]; · iexact HxL2
    iexact Hxs
  ihave Hks := (ks_lend c (A.ks c)).2 $$ [Hask_pay1 HkL1 Hks]
  · isplitl [Hask_pay1]; · iexact Hask_pay1
    isplitl [HkL1]; · iexact HkL1
    iexact Hks
  imodintro
  iapply Hend
  unfold after
  isplitl [HzHb HzHsx0 HzHsx1 HzHrx0 HzHrx1 HzHsk HzHrk HzHsp HzHrp Hw0 Hw1]
  · isplitl [HzHb]; · iexact HzHb
    isplitl [HzHsx0]; · iexact HzHsx0
    isplitl [HzHsx1]; · iexact HzHsx1
    isplitl [HzHrx0]; · iexact HzHrx0
    isplitl [HzHrx1]; · iexact HzHrx1
    isplitl [HzHsk]; · iexact HzHsk
    isplitl [HzHrk]; · iexact HzHrk
    isplitl [HzHsp]; · iexact HzHsp
    isplitl [HzHrp]; · iexact HzHrp
    isplitl [Hw0]; · iexact Hw0
    iexact Hw1
  isplitl [Hx Hk Ho HW1 HW2]
  · isplitl [Hx]; · iexact Hx
    isplitl [Hk]; · iexact Hk
    isplitl [Ho]; · iexact Ho
    isplitl [HW1]; · iexact HW1
    iexact HW2
  isplitr [HO]
  · isplitl [Hxs]; · iexists _; iexact Hxs
    isplitl [Hks]; · iexists _; iexact Hks
    isplitl [Hrk]; · iexists _; iexact Hrk
    isplitl [Hpx]; · iexists _; iexact Hpx
    isplitl [Hark_pay1]; · iexists _; iexact Hark_pay1
    isplitl [Hasp_pay1]; · iexists _; iexact Hasp_pay1
    isplitl [Harp_pay1]; · iexists _; iexact Harp_pay1
    isplitl [Hw1b]; · iexists _; iexact Hw1b
    iexists _; iexact Hw2b
  iexists _; iexact HO

end Cert.MoE
end
-- ==== Proof.Region.lean ====
/- The kernel's region: what it is entered with, what it leaves, and that its body does that on every device. -/
module

public import proofs.«01_k».proof.Proof.Body
public import proofs.«01_k».proof.Proof.Gen.KernelIdeal.Regions

@[expose] public section

set_option maxRecDepth 16384

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## The contents -/

/-- What the pipeline stages on device `c`: its tokens, and its keys. -/
abbrev xv (c : Dev nD) : (cfg0.win 0).block.Idx → Elt F (cfg0.win 0).elt :=
  ((cfg0.win 0).blk t0_0).view.read (Elt F) (V3 m c main_v11)
abbrev kv (c : Dev nD) : (cfg0.win 1).block.Idx → Elt F (cfg0.win 1).elt :=
  ((cfg0.win 1).blk t0_0).view.read (Elt F) (V3 m c main_v10)
/-- The weights that the body copies itself. -/
abbrev w1v (c : Dev nD) : (main_v12 : Ref sig .tc).ty.Contents (Elt F) := V3 m c main_v12
abbrev w2v (c : Dev nD) : (main_v13 : Ref sig .tc).ty.Contents (Elt F) := V3 m c main_v13

/-- What each device sorts, and what it computes for its neighbour. -/
noncomputable def arrs : Arrays F where
  xs c := xsV (xv m c) (kv m c)
  ks c := ksV (kv m c)
  sb c := sbV (tailX (xsV (xv m (pr c)) (kv m (pr c)))) (tailK (ksV (kv m (pr c)))) (w1v m c) (w2v m c)

/-- What each device's result is. -/
noncomputable def outC (c : Dev nD) : (cc0_stg2_0 : Ref sig .tc).ty.Contents (Elt F) :=
  outV (rankV (kv m c)) (obV ((arrs m).xs c) ((arrs m).ks c) (w1v m c) (w2v m c) ((arrs m).sb (pr c)))

/-! ## The states around the body -/

/-- The cells of the kernel's own copies; those of the exchange first. -/
abbrev osem : Fin 10 → SemLoc sig
  | 0 => .dma sx0 | 1 => .dma sx1 | 2 => .dma rx0 | 3 => .dma rx1 | 4 => .dma sk | 5 => .dma rk | 6 => .dma sp | 7 => .dma rp
  | 8 => .dma 11 | 9 => .dma 12

/-- The rights to open a device's eight cells. -/
def closedCells (c : Dev nD) : sProp 𝕄 :=
  iprop(openTok ER (dmaCell c sx0) ∗ openTok ER (dmaCell c sx1) ∗ openTok ER (dmaCell c rx0) ∗ openTok ER (dmaCell c rx1)
    ∗ openTok ER (dmaCell c sk) ∗ openTok ER (dmaCell c rk) ∗ openTok ER (dmaCell c sp) ∗ openTok ER (dmaCell c rp))

/-- What device `c` brings from launch. -/
def ghost (K : GSem nD τ sig → ℕ) (c : Dev nD) : sProp 𝕄 :=
  iprop(invs (arrs m) K c ∗ toks c ∗ atPos ER (barCell c) 0 ∅ 0 ∗ closedCells c ∗ reached ER (barCell (pr c)) 0)

def Tk (c : Dev nD) : sProp 𝕄 := iprop((∃ K, ghost m K c) ∗ creds c)
def Xk (c : Dev nD) : sProp 𝕄 :=
  iprop((∃ K, opened (arrs m) K c) ∗ creds c ∗ levAts L lv ∗ semVal ((c : Thread nD τ), .dma 11) 0 ∗ semVal ((c : Thread nD τ), .dma 12) 0)
def Yk (c : Dev nD) : sProp 𝕄 := semVal (barCell c) 0

/-- The counters of the kernel's own copies at zero. -/
def zeros (c : Dev nD) : sProp 𝕄 :=
  iprop(semVal (dmaCell c sx0) 0 ∗ semVal (dmaCell c sx1) 0 ∗ semVal (dmaCell c rx0) 0 ∗ semVal (dmaCell c rx1) 0
      ∗ semVal (dmaCell c sk) 0 ∗ semVal (dmaCell c rk) 0 ∗ semVal (dmaCell c sp) 0 ∗ semVal (dmaCell c rp) 0
      ∗ semVal ((c : Thread nD τ), .dma 11) 0 ∗ semVal ((c : Thread nD τ), .dma 12) 0)

theorem ownSems_eq (c : Dev nD) : (Pipeline.ownSems0 osem c : sProp 𝕄) = zeros c :=
  bigSep_univ_eq_bigSepL [(0 : Fin 10), 1, 2, 3, 4, 5, 6, 7, 8, 9] (by decide) (by decide) _

/-- The nine scratch buffers at some contents. -/
def scratch (c : Dev nD) : sProp 𝕄 :=
  iprop((∃ f, pt c cc0_scratch0 f) ∗ (∃ f, pt c cc0_scratch1 f) ∗ (∃ f, pt c cc0_scratch2 f) ∗ (∃ f, pt c cc0_scratch3 f) ∗ (∃ f, pt c cc0_scratch4 f)
    ∗ (∃ f, pt c cc0_scratch5 f) ∗ (∃ f, pt c cc0_scratch6 f) ∗ (∃ f, pt c cc0_scratch7 f) ∗ (∃ f, pt c cc0_scratch8 f))

theorem scratch_eq (c : Dev nD) : (Pipeline.scopedRest (Ix := Unit) (Name := ℕ) (U := UU) (Lvl := ℕ) (Val := Elt F) (Pipeline.pin (pcfgs (F := F)) adm 0).spec c : sProp 𝕄) = scratch c :=
  scopedRest0_eq c

/-- The weights, held by the body. -/
def weights (c : Dev nD) : sProp 𝕄 := iprop(pt c main_v12 (w1v m c) ∗ pt c main_v13 (w2v m c))

/-- The region's proof data. -/
def dat0 (c : Dev nD) : Dat τ (Elt F) Unit ℕ UU ℕ cfg0 c where
  A w := match w with
    | ⟨0, _⟩ => V3 m c main_v11
    | ⟨1, _⟩ => V3 m c main_v10
    | ⟨2, _⟩ => V3 m c main_v14
  after w _ := match w with
    | ⟨0, _⟩ => xv m c
    | ⟨1, _⟩ => kv m c
    | ⟨2, _⟩ => outC m c
  Φ t := if t.val = 0 then iprop(Xk m c ∗ scratch c ∗ weights m c ∗ ∃ r, prngReg c r)
    else iprop(Yk c ∗ zeros c ∗ scratch c ∗ weights m c ∗ ∃ r, prngReg c r)
  q _ := fullShare
  owed t := if t.val = 0 then O₀ c else 0

def pdats : (p : Fin 1) → (c : Dev nD) → Dat τ (Elt F) Unit ℕ UU ℕ (Pipeline.pin (pcfgs (F := F)) adm p) c
  | 0 => dat0 m

theorem owed_zero (c : Dev nD) : (pdats (F := F) m 0 c).owed 0 = O₀ c := by
  show (if ((0 : Fin (cfg0.N + 1)).val = 0) then O₀ c else 0) = O₀ c; exact if_pos rfl
theorem owed_first (c : Dev nD) : (dat0 (F := F) m c).owed t0_0.castSucc = O₀ c := by
  show (if (t0_0.castSucc : Fin (cfg0.N + 1)).val = 0 then O₀ c else 0) = O₀ c; exact if_pos rfl
theorem owed_last (c : Dev nD) : (pdats (F := F) m 0 c).owed (Fin.last _) = 0 := by
  show (if (Fin.last cfg0.N).val = 0 then O₀ c else 0) = 0
  rw [Fin.val_last, if_neg (by rw [show cfg0.N = 1 from N_0]; decide)]

/-! ## The body's obligation -/

theorem before_x (c : Dev nD) (d : (cfg0.win 0).block.Idx → Elt F (cfg0.win 0).elt) : (dat0 m c).before 0 t0_0 d = xv m c := by
  unfold Pipeline.Dat.before; rw [if_pos (fetch0_0 t0_0)]; rfl
theorem before_k (c : Dev nD) (d : (cfg0.win 1).block.Idx → Elt F (cfg0.win 1).elt) : (dat0 m c).before 1 t0_0 d = kv m c := by
  unfold Pipeline.Dat.before; rw [if_pos (fetch0_1 t0_0)]; rfl

omit [FloatOps F] in
theorem owns_pt (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ pt c b f) := by
  unfold owns; simp only [Memref.view_whole, View.read_whole, View.set_whole]

omit [FloatOps F] in
theorem own_of_pt {b : Ref sig .tc} (c : Dev nD) (f : b.ty.Contents (Elt F)) :
    (pt c b f : sProp 𝕄) ⊢ (Memref.whole b).view.loc (c : Thread nD τ) ↦[(Memref.whole b).view.set]{fullShare} f := by
  rw [show (Memref.whole b).view.set = Finset.univ from View.set_whole _]
omit [FloatOps F] in
theorem pt_of_own {b : Ref sig .tc} (c : Dev nD) (f : b.ty.Contents (Elt F)) :
    ((Memref.whole b).view.loc (c : Thread nD τ) ↦[(Memref.whole b).view.set]{fullShare} f : sProp 𝕄) ⊢ pt c b f := by
  rw [show (Memref.whole b).view.set = Finset.univ from View.set_whole _]

theorem body_obligation (c : Dev nD) : BodyObligation (dat0 (F := F) m c) (defs₀ (F := F)) 𝒱₀ () Set.univ := fun t => by
  obtain rfl := fin_N0 t
  rw [bigSep_W0, bigSep_W0]
  simp only [owns_pt]
  rw [show (dat0 m c).Φ t0_0.castSucc = iprop(Xk m c ∗ scratch c ∗ weights m c ∗ ∃ r, prngReg c r) from rfl,
    show (dat0 m c).Φ t0_0.succ = iprop(Yk c ∗ zeros c ∗ scratch c ∗ weights m c ∗ ∃ r, prngReg c r) from rfl]
  unfold Xk scratch weights
  iintro ⟨⟨⟨⟨%K, Hg⟩, Hc, Hlev, Hz0, Hz1⟩, ⟨⟨%s0, Hs0⟩, ⟨%s1, Hs1⟩, ⟨%s2, Hs2⟩, ⟨%s3, Hs3⟩, ⟨%s4, Hs4⟩, ⟨%s5, Hs5⟩, ⟨%s6, Hs6⟩, ⟨%s7, Hs7⟩, ⟨%s8, Hs8⟩⟩, ⟨HW1, HW2⟩, Hreg⟩,
    HO, ⟨%d0, %f0, %hf0, H0⟩, ⟨%d1, %f1, %hf1, H1⟩, ⟨%d2, %f2, %hf2, H2⟩⟩
  rw [before_x] at hf0
  rw [before_k] at hf1
  subst hf0 hf1
  unfold Pipeline.Dat.owesAt Pipeline.owesWithin
  rw [owed_first m c]
  icases HO with ⟨%W, -, HO⟩
  ihave Hp := (px_windows c s3).1 $$ Hs3
  icases Hp with ⟨Hp0, Hp1⟩
  iapply (bodyRun (arrs m) K c W _ (xv m c) (kv m c) f2 (w1v m c) (w2v m c) s0 s1 s2 s3 s4 s5 s6 s7 s8 rfl rfl rfl)
  isplitl [Hg]; · iexact Hg
  isplitl [Hc]; · iexact Hc
  isplitl [Hlev]; · iexact Hlev
  isplitl [Hz0]; · iexact Hz0
  isplitl [Hz1]; · iexact Hz1
  isplitl [H0]; · iexact H0
  isplitl [H1]; · iexact H1
  isplitl [H2]; · iexact H2
  isplitl [HW1]; · iexact HW1
  isplitl [HW2]; · iexact HW2
  isplitl [Hs0]; · iexact Hs0
  isplitl [Hs1]; · iexact Hs1
  isplitl [Hs2]; · iexact Hs2
  isplitl [Hp0]; · iexact Hp0
  isplitl [Hp1]; · iexact Hp1
  isplitl [Hs4]; · iapply (own_of_pt c s4) $$ Hs4
  isplitl [Hs5]; · iexact Hs5
  isplitl [Hs6]; · iapply (own_of_pt c s6) $$ Hs6
  isplitl [Hs7]; · iexact Hs7
  isplitl [Hs8]; · iexact Hs8
  isplitl [HO]; · iexact HO
  unfold after
  iintro ⟨⟨Hbz, Hz⟩, ⟨H0, H1, H2, HW1, HW2⟩, ⟨Hs0, Hs1, Hs2, Hs3, ⟨%s4', Hs4⟩, ⟨%s5', Hs5⟩, ⟨%s6', Hs6⟩, Hs7, Hs8⟩, ⟨%W', HO⟩⟩
  isplitl [Hbz Hz Hs0 Hs1 Hs2 Hs3 Hs4 Hs5 Hs6 Hs7 Hs8 HW1 HW2 Hreg]
  · unfold Yk zeros
    isplitl [Hbz]; · iexact Hbz
    isplitl [Hz]; · iexact Hz
    isplitl [Hs0 Hs1 Hs2 Hs3 Hs4 Hs5 Hs6 Hs7 Hs8]
    · isplitl [Hs0]; · iexact Hs0
      isplitl [Hs1]; · iexact Hs1
      isplitl [Hs2]; · iexact Hs2
      isplitl [Hs3]; · iexact Hs3
      isplitl [Hs4]; · iexists s4'; iapply (pt_of_own c s4') $$ Hs4
      isplitl [Hs5]; · iexists s5'; iapply (pt_of_own c s5') $$ Hs5
      isplitl [Hs6]; · iexists s6'; iapply (pt_of_own c s6') $$ Hs6
      isplitl [Hs7]; · iexact Hs7
      iexact Hs8
    isplitl [HW1 HW2]
    · isplitl [HW1]; · iexact HW1
      iexact HW2
    iexact Hreg
  isplitl [HO]
  · iexists W'
    isplitr
    · ipureintro; exact fun _ _ => Or.inl trivial
    rw [show (dat0 m c).owed t0_0.succ = 0 from owed_last m c]
    iexact HO
  isplitl [H0]
  · iexists _; isplitr; swap; (· iexact H0); ipureintro; rfl
  isplitl [H1]
  · iexists _; isplitr; swap; (· iexact H1); ipureintro; rfl
  iexists _; isplitr; swap; (· iexact H2); ipureintro; rfl

/-! ## The region as a segment -/

theorem hopen (c : Dev nD) : iprop(Tk m c ∗ Pipeline.ownSems0 osem c ∗ levAts L lv) ⊢ (|={Set.univ}=> Xk m c : sProp 𝕄) := by
  rw [ownSems_eq]
  unfold Tk Xk ghost invs closedCells zeros
  iintro ⟨⟨⟨%K, ⟨#I0, #I1, #I2, #I3, #I4, #I5, #I6, #I7, #I8, #J0, #J1, #J2, #J3, #J4⟩, Ht, Hab, ⟨Ho1, Ho2, Ho3, Ho4, Ho5, Ho6, Ho7, Ho8⟩, #Hrb⟩, Hc⟩,
    ⟨Hz1, Hz2, Hz3, Hz4, Hz5, Hz6, Hz7, Hz8, Hz9, Hz10⟩, #Hlev⟩
  imod (Rounds.cell_open ER (talk (arrs m)) (g := dmaCell c sx0) (Set.mem_univ (K (dmaCell c sx0)))) $$ [Ho1 Hz1] with ⟨Ha1, #Hr1⟩
  · isplitr; · iexact I1
    isplitl [Ho1] <;> iassumption
  imod (Rounds.cell_open ER (talk (arrs m)) (g := dmaCell c sx1) (Set.mem_univ (K (dmaCell c sx1)))) $$ [Ho2 Hz2] with ⟨Ha2, #Hr2⟩
  · isplitr; · iexact I2
    isplitl [Ho2] <;> iassumption
  imod (Rounds.cell_open ER (talk (arrs m)) (g := dmaCell c rx0) (Set.mem_univ (K (dmaCell c rx0)))) $$ [Ho3 Hz3] with ⟨Ha3, #Hr3⟩
  · isplitr; · iexact I3
    isplitl [Ho3] <;> iassumption
  imod (Rounds.cell_open ER (talk (arrs m)) (g := dmaCell c rx1) (Set.mem_univ (K (dmaCell c rx1)))) $$ [Ho4 Hz4] with ⟨Ha4, #Hr4⟩
  · isplitr; · iexact I4
    isplitl [Ho4] <;> iassumption
  imod (Rounds.cell_open ER (talk (arrs m)) (g := dmaCell c sk) (Set.mem_univ (K (dmaCell c sk)))) $$ [Ho5 Hz5] with ⟨Ha5, #Hr5⟩
  · isplitr; · iexact I5
    isplitl [Ho5] <;> iassumption
  imod (Rounds.cell_open ER (talk (arrs m)) (g := dmaCell c rk) (Set.mem_univ (K (dmaCell c rk)))) $$ [Ho6 Hz6] with ⟨Ha6, #Hr6⟩
  · isplitr; · iexact I6
    isplitl [Ho6] <;> iassumption
  imod (Rounds.cell_open ER (talk (arrs m)) (g := dmaCell c sp) (Set.mem_univ (K (dmaCell c sp)))) $$ [Ho7 Hz7] with ⟨Ha7, #Hr7⟩
  · isplitr; · iexact I7
    isplitl [Ho7] <;> iassumption
  imod (Rounds.cell_open ER (talk (arrs m)) (g := dmaCell c rp) (Set.mem_univ (K (dmaCell c rp)))) $$ [Ho8 Hz8] with ⟨Ha8, #Hr8⟩
  · isplitr; · iexact I8
    isplitl [Ho8] <;> iassumption
  imodintro
  isplitl [Ht Hab Ha1 Ha2 Ha3 Ha4 Ha5 Ha6 Ha7 Ha8]
  · iexists K
    unfold opened invs
    isplitr
    · isplitr; · iexact I0
      isplitr; · iexact I1
      isplitr; · iexact I2
      isplitr; · iexact I3
      isplitr; · iexact I4
      isplitr; · iexact I5
      isplitr; · iexact I6
      isplitr; · iexact I7
      isplitr; · iexact I8
      isplitr; · iexact J0
      isplitr; · iexact J1
      isplitr; · iexact J2
      isplitr; · iexact J3
      iexact J4
    isplitl [Ht]; · iexact Ht
    isplitl [Hab Ha1 Ha2 Ha3 Ha4 Ha5 Ha6 Ha7 Ha8]
    · isplitl [Hab]; · iexact Hab
      isplitl [Ha1]; · iexact Ha1
      isplitl [Ha2]; · iexact Ha2
      isplitl [Ha3]; · iexact Ha3
      isplitl [Ha4]; · iexact Ha4
      isplitl [Ha5]; · iexact Ha5
      isplitl [Ha6]; · iexact Ha6
      isplitl [Ha7]; · iexact Ha7
      iexact Ha8
    isplitr; · iexact Hrb
    isplitr; · iexact Hr1
    isplitr; · iexact Hr2
    isplitr; · iexact Hr5
    isplitr; · iexact Hr7
    isplitr; · iexact Hr3
    isplitr; · iexact Hr4
    isplitr; · iexact Hr6
    iexact Hr8
  isplitl [Hc]; · iexact Hc
  isplitr; · iexact Hlev
  isplitl [Hz9]; · iexact Hz9
  iexact Hz10

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem above_O₀ (c : Dev nD) : Above 0 (O₀ c) := by
  unfold O₀
  exact above_add (above_add (above_add (above_add (above_tally _ (pr c) (.dma rp) NP (by decide)) (above_tally _ (pr c) (.dma rx1) NX1 (by decide)))
    (above_tally _ (pr c) (.dma rx0) NX0 (by decide))) (above_tally _ (pr c) (.dma rk) NK (by decide))) (above_tally _ (pr c) (.reg barS) 1 (by decide))

theorem cutD (c : Dev nD) (t : Fin ((Pipeline.pin (pcfgs (F := F)) adm 0).N + 1)) (g : GSem nD τ sig) (i : Unit) (h : 0 < (pdats (F := F) m 0 c).owed t g i) :
    i ∈ L g ∧ (0 : ℕ) < lv g i := by
  have e : (pdats (F := F) m 0 c).owed t = if t.val = 0 then O₀ c else 0 := rfl
  rw [e] at h
  split at h
  · exact above_O₀ c g i h
  · exact absurd h (Nat.lt_irrefl 0)

/-- The buffers that the body addresses itself, and all the buffers outside the windows' arrays. -/
abbrev Hs : Finset (DevRef τ sig) := {Proc.devRef .tc main_v12, Proc.devRef .tc main_v13}
abbrev Ar : Finset (DevRef τ sig) := Pipeline.arrRefs (τ := τ) (pcfgs (F := F) 0).spec
abbrev Sr : Finset (DevRef τ sig) := Pipeline.ucRefs τ sig \ Ar (F := F)

theorem ar_sub : Ar (F := F) ⊆ Pipeline.ucRefs τ sig := by
  show Pipeline.arrRefs (τ := τ) spec0 ⊆ _
  decide
theorem hs_sub : Hs ⊆ Sr (F := F) := by
  show Hs ⊆ Pipeline.ucRefs τ sig \ Pipeline.arrRefs (τ := τ) spec0
  decide

/-- What the region leaves. -/
def outs : Outs (F := F) := fun _ r c =>
  if h : r = main_v14 then h ▸ ((pdats m 0 c).arrAt 2 (Pipeline.pin (pcfgs (F := F)) adm 0).N) else V3 m c r

abbrev VE (c : Dev nD) : Valuation τ sig (Elt F) := V4 m (outs m) c

theorem VE_v14 (c : Dev nD) : VE m c main_v14 = (pdats m 0 c).arrAt 2 (Pipeline.pin (pcfgs (F := F)) adm 0).N := by
  unfold VE V4
  rw [Function.update_of_ne (by decide), Function.update_of_ne (by decide), Function.update_self]
  unfold outs
  rw [dif_pos rfl]
theorem VE_of (c : Dev nD) (b : Ref sig .tc) (h : b ≠ main_v14) : VE m c b = V3 m c b := by
  unfold VE V4
  by_cases h3 : b = main_v13
  · subst h3; rw [Function.update_self]; unfold outs; rw [dif_neg h]
  rw [Function.update_of_ne (StableHlo.devRef_ne_of_ne h3)]
  by_cases h2 : b = main_v12
  · subst h2; rw [Function.update_self]; unfold outs; rw [dif_neg h]
  rw [Function.update_of_ne (StableHlo.devRef_ne_of_ne h2), Function.update_of_ne (StableHlo.devRef_ne_of_ne h)]

theorem held_hs (c : Dev nD) (W : Valuation τ sig (Elt F)) :
    (StableHlo.held (c.tc : Thread nD τ) Hs W : sProp 𝕄) = iprop(pt c main_v12 (W main_v12) ∗ pt c main_v13 (W main_v13)) := by
  unfold StableHlo.held
  rw [bigSep_insert (by decide), bigSep_singleton]
  rfl

theorem hin (c : Dev nD) : iprop(Pipeline.scopedRest (Pipeline.pin (pcfgs (F := F)) adm 0).spec c ∗ (∃ r, prngReg c r) ∗ StableHlo.held (c.tc : Thread nD τ) Hs (V3 m c) ∗ Xk m c)
    ⊢ (pdats m 0 c).Φ 0 := by
  rw [show (pdats m 0 c).Φ 0 = iprop(Xk m c ∗ scratch c ∗ weights m c ∗ ∃ r, prngReg c r) from rfl, scratch_eq, held_hs]
  unfold weights
  iintro ⟨Hs, Hp, HW, HX⟩
  isplitl [HX]; · iexact HX
  isplitl [Hs]; · iexact Hs
  isplitl [HW]; · iexact HW
  iexact Hp

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) Hs (VE m c) ∗ Pipeline.ownSems0 osem c ∗ Yk c) := by
  rw [show (pdats m 0 c).Φ (Fin.last _) = iprop(Yk c ∗ zeros c ∗ scratch c ∗ weights m c ∗ ∃ r, prngReg c r) from rfl,
    ownSems_eq, scratch_eq, held_hs, VE_of m c main_v12 (by decide), VE_of m c main_v13 (by decide)]
  unfold weights
  iintro ⟨HY, Hz, Hs, HW, Hp⟩
  isplitl [Hs]; · iexact Hs
  isplitl [Hp]; · iexact Hp
  isplitl [HW]; · iexact HW
  isplitl [Hz]; · iexact Hz
  iexact HY

theorem rest_same (c : Dev nD) (b : DevRef τ sig) (hb : b ∈ Sr (F := F) \ Hs) : VE m c b = V3 m c b := by
  have h1 : b ≠ Proc.devRef .tc main_v14 := fun e => by
    subst e
    exact absurd hb (by show _ ∉ (Pipeline.ucRefs τ sig \ Pipeline.arrRefs (τ := τ) spec0) \ Hs; decide)
  have h2 : b ≠ Proc.devRef .tc main_v12 := fun e => by
    subst e
    exact (Finset.mem_sdiff.mp hb).2 (by decide)
  have h3 : b ≠ Proc.devRef .tc main_v13 := fun e => by
    subst e
    exact (Finset.mem_sdiff.mp hb).2 (by decide)
  unfold VE V4
  rw [Function.update_of_ne h3, Function.update_of_ne h2, Function.update_of_ne h1]

local notation "ℝ𝕊" => Pipeline.RegionSeg (pcfgs (F := F)) adm (pdats m) () defs₀ 𝒱₀ L lv

set_option backward.isDefEq.respectTransparency.types false in
def reg : ℝ𝕊 0 :=
  Pipeline.RegionSeg.ofTalk (pcfgs (F := F)) adm (pdats m) () defs₀ 𝒱₀ L lv 0 osem (by decide : Pipeline.OwnSemFacts spec0 osem)
    Hs (Sr (F := F)) hs_sub kitP rfl (fun c => (body_obligation m c).loose)
    (fun _ => 0) O₀ (fun c => (owed_zero m c).trans (zero_add _).symm) (owed_last m) (fun _ => rfl) (fun c w => by unfold Dat.share; split <;> rfl)
    (V3 m) (VE m) (rest_same m)
    (Tk m) Yk (Xk m) Yk (hopen m) (hin m) (hout m)
    (fun c => by iintro H; imodintro; iexact H)
    (fun _ => 0)
    ⟨fun c w s => by rw [L_tc]; exact Finset.mem_singleton_self _, fun c w s => by
      show lvOf _ ≤ 0
      revert w s
      show ∀ (w : Fin 3) (s : Fin (spec0 w).nbuf), lvOf (.dma ((spec0 w).sem s)) ≤ 0
      decide, fun c t g i h => cutD m c t g i h⟩
    (fun _ => iprop(emp))
    (fun c w => by fin_cases w <;> rfl)
    (fun c w => by
      fin_cases w
      · exact ((dat0 m c).arrAt_in 0 rfl _).trans (VE_of m c main_v11 (by decide)).symm
      · exact ((dat0 m c).arrAt_in 1 rfl _).trans (VE_of m c main_v10 (by decide)).symm
      · exact (VE_v14 m c).symm)

/-- What rides beside the buffers before the region, and after it. -/
def riding (i : Fin 2) (c : Dev nD) : sProp 𝕄 :=
  if i = 0 then iprop(Tk m c ∗ (∃ r, prngReg c r) ∗ ∃ W, owes (c : Thread nD τ) (O₀ c) W)
  else iprop(semVal (barCell c) 0 ∗ ∃ W, owes (c : Thread nD τ) (0 : CellTallies nD τ sig Unit) W)

theorem reg_pre (c : Dev nD) : iprop(StableHlo.held (c : Thread nD τ) (Pipeline.ucRefs τ sig) (V3 m c) ∗ riding m 0 c) ⊢ (reg m).pre c := by
  show _ ⊢ iprop(StableHlo.held (c.tc : Thread nD τ) (Ar (F := F)) (V3 m c) ∗ (∃ r, prngReg c r)
    ∗ (StableHlo.held (c.tc : Thread nD τ) (Sr (F := F)) (V3 m c) ∗ emp) ∗ Tk m c ∗ ∃ Wd, owes (c : Thread nD τ) (0 + O₀ c) Wd)
  rw [zero_add, StableHlo.held_sub_split (c.tc : Thread nD τ) (ar_sub (F := F)) (V3 m c)]
  unfold riding
  rw [if_pos rfl]
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

theorem reg_post (c : Dev nD) : (reg m).post c ⊢ iprop(StableHlo.held (c : Thread nD τ) (Pipeline.ucRefs τ sig) (VE m c) ∗ riding m 1 c) := by
  show iprop(StableHlo.held (c.tc : Thread nD τ) (Ar (F := F)) (VE m c) ∗ (∃ r, prngReg c r)
    ∗ (StableHlo.held (c.tc : Thread nD τ) (Sr (F := F)) (VE m c) ∗ emp) ∗ Yk c ∗ ∃ Wd, owes (c : Thread nD τ) (0 : CellTallies nD τ sig Unit) Wd) ⊢ _
  rw [StableHlo.held_sub_split (c.tc : Thread nD τ) (ar_sub (F := F)) (VE m c)]
  unfold riding Yk
  rw [if_neg (by decide)]
  iintro ⟨Ha, -, ⟨Hr, -⟩, Hb, HO⟩
  isplitl [Ha Hr]
  · isplitl [Ha] <;> iassumption
  isplitl [Hb]; · iexact Hb
  iexact HO

end Cert.MoE
-- ==== Proof.Launch.lean ====
/- The launch: every cell's invariant, the tokens dealt to the devices that pay, the credit to those that wait; and the
   run of the whole program. -/
module

public import proofs.«01_k».proof.Proof.Region

@[expose] public section

set_option maxRecDepth 16384

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens -/

abbrev esem : Fin 8 → SemLoc sig
  | 0 => .dma sx0 | 1 => .dma sx1 | 2 => .dma rx0 | 3 => .dma rx1 | 4 => .dma sk | 5 => .dma rk | 6 => .dma sp | 7 => .dma rp
theorem esem_inj : Function.Injective esem := by decide
theorem esem_ne_bar : ∀ k : Fin 8, esem k ≠ .reg barS := by decide

abbrev tsem : Fin 9 → SemLoc sig
  | 0 => .reg barS | 1 => .dma rk | 2 => .dma rx0 | 3 => .dma rx1 | 4 => .dma rp | 5 => .dma sk | 6 => .dma sx0 | 7 => .dma sx1 | 8 => .dma sp
theorem tsem_inj : Function.Injective tsem := by decide

def barEmb : Dev nD ↪ GSem nD τ sig := ⟨fun c => barCell c, fun _ _ h => congrArg (fun g : GSem nD τ sig => g.1.1) h⟩
def excEmb : Dev nD × Fin 8 ↪ GSem nD τ sig :=
  ⟨fun ck => ((ck.1 : Thread nD τ), esem ck.2), fun _ _ h =>
    Prod.ext (congrArg (fun g : GSem nD τ sig => g.1.1) h) (esem_inj (congrArg Prod.snd h))⟩
def tokEmb : Dev nD × Fin 9 ↪ GSem nD τ sig × ℕ × Unit :=
  ⟨fun ck => (((ck.1 : Thread nD τ), tsem ck.2), 0, ()), fun _ _ h =>
    Prod.ext (congrArg (fun t : GSem nD τ sig × ℕ × Unit => t.1.1.1) h)
      (tsem_inj (congrArg (fun t : GSem nD τ sig × ℕ × Unit => t.1.2) h))⟩

/-- The barrier cells, funded from their counters; the cells of the copies, funded without; one token per duty. -/
abbrev barCells : Finset (GSem nD τ sig) := Finset.univ.map barEmb
abbrev excCells : Finset (GSem nD τ sig) := Finset.univ.map excEmb
abbrev allToks : Finset (GSem nD τ sig × ℕ × Unit) := Finset.univ.map tokEmb

theorem disjoint_cells : Disjoint (barCells : Finset (GSem nD τ sig)) excCells := by
  rw [Finset.disjoint_left]
  rintro g h₁ h₂
  obtain ⟨c, -, rfl⟩ := Finset.mem_map.mp h₁
  obtain ⟨ck, -, h⟩ := Finset.mem_map.mp h₂
  exact esem_ne_bar ck.2 (congrArg Prod.snd h)

theorem bar_mem (c : Dev nD) : barCell c ∈ (barCells ∪ excCells : Finset (GSem nD τ sig)) :=
  Finset.mem_union_left _ (Finset.mem_map_of_mem barEmb (Finset.mem_univ c))
theorem exc_mem (c : Dev nD) (k : Fin 8) : ((c : Thread nD τ), esem k) ∈ (barCells ∪ excCells : Finset (GSem nD τ sig)) :=
  Finset.mem_union_right _ (Finset.mem_map_of_mem excEmb (Finset.mem_univ (c, k)))

def u₀ : UU :=
  (initOf (Pipeline.cells cfgs cellOf_inj) (Pipeline.launchToks cfgs cellOf_inj), (launchOf barCells excCells allToks, 1))

theorem ownU_parts (a b : UR sig nD τ) :
    (ownU ((a, (b, (1 : Counters))) : UU) : sProp 𝕄) ⊢ iprop(BI.own (EP (F := F) a) ∗ BI.own (ER (F := F) b)) :=
  BI.own_op_elim ((uEmb (nD := nD) (τ := τ) (sig := sig) (Ix := Unit) (Val := Elt F) (Name := ℕ) (U := UU) (Lvl := ℕ)).toEmb.op_of_mem
    (Prod.mk_mem_op (URA.mem_op_one a) (URA.mem_one_op (b, (1 : Counters)))))

/-- The launch element of the exchange, all of it on device 0. -/
def G (c : Dev nD) : sProp 𝕄 := if c = 0 then BI.own (ER (launchOf barCells excCells allToks)) else iprop(emp)
theorem bigSep_G : bigSep Finset.univ (G (F := F)) = BI.own (ER (launchOf barCells excCells allToks)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-! ## What each device takes of it -/

def records (κ : GSem nD τ sig → ℕ) : sProp 𝕄 :=
  iprop((bigSep (barCells ∪ excCells) fun g => cellInv ER (talk (arrs m)) (κ g) g) ∗ bigSep barCells fun g => reached ER g 0)

instance records_persistent (κ : GSem nD τ sig → ℕ) : BI.Persistent (records m κ) := by unfold records; infer_instance

theorem inv_bar (κ : GSem nD τ sig → ℕ) (c : Dev nD) :
    (bigSep (barCells ∪ excCells) fun g => (cellInv ER (talk (arrs m)) (κ g) g : sProp 𝕄)) ⊢ cellInv ER (talk (arrs m)) (κ (barCell c)) (barCell c) :=
  bigSep_elim (bar_mem c)
theorem inv_exc (κ : GSem nD τ sig → ℕ) (c : Dev nD) (k : Fin 8) :
    (bigSep (barCells ∪ excCells) fun g => (cellInv ER (talk (arrs m)) (κ g) g : sProp 𝕄))
      ⊢ cellInv ER (talk (arrs m)) (κ ((c : Thread nD τ), esem k)) ((c : Thread nD τ), esem k) :=
  bigSep_elim (exc_mem c k)
theorem reached_bar (c : Dev nD) : (bigSep barCells fun g => (reached ER g 0 : sProp 𝕄)) ⊢ reached ER (barCell c) 0 :=
  bigSep_elim (Finset.mem_map_of_mem barEmb (Finset.mem_univ c))

def linear (c : Dev nD) : sProp 𝕄 := iprop(atPos ER (barCell c) 0 ∅ 0 ∗ closedCells c ∗ toks c)

theorem ghost_intro (κ : GSem nD τ sig → ℕ) (c : Dev nD) : iprop(records m κ ∗ linear c) ⊢ iprop(∃ K, ghost m K c) := by
  unfold records linear ghost invs
  iintro ⟨⟨#HI, #HR⟩, HaB, Ho, Ht⟩
  iexists κ
  isplitr
  · isplitr; · iapply (inv_bar m κ c); iexact HI
    isplitr; · iapply (inv_exc m κ c 0); iexact HI
    isplitr; · iapply (inv_exc m κ c 1); iexact HI
    isplitr; · iapply (inv_exc m κ c 2); iexact HI
    isplitr; · iapply (inv_exc m κ c 3); iexact HI
    isplitr; · iapply (inv_exc m κ c 4); iexact HI
    isplitr; · iapply (inv_exc m κ c 5); iexact HI
    isplitr; · iapply (inv_exc m κ c 6); iexact HI
    isplitr; · iapply (inv_exc m κ c 7); iexact HI
    isplitr; · iapply (inv_bar m κ (pr c)); iexact HI
    isplitr; · iapply (inv_exc m κ (pr c) 2); iexact HI
    isplitr; · iapply (inv_exc m κ (pr c) 3); iexact HI
    isplitr; · iapply (inv_exc m κ (pr c) 5); iexact HI
    iapply (inv_exc m κ (pr c) 7); iexact HI
  isplitl [Ht]; · iexact Ht
  isplitl [HaB]; · iexact HaB
  isplitl [Ho]; · iexact Ho
  iapply (reached_bar (F := F) (pr c)); iexact HR

/-- The tokens as dealt: each device's own cells'. -/
def ownToks (c : Dev nD) : sProp 𝕄 :=
  iprop(dutyTok ER (barCell c) 0 () ∗ dutyTok ER (dmaCell c rk) 0 () ∗ dutyTok ER (dmaCell c rx0) 0 () ∗ dutyTok ER (dmaCell c rx1) 0 ()
    ∗ dutyTok ER (dmaCell c rp) 0 ()
    ∗ dutyTok ER (dmaCell c sk) 0 () ∗ dutyTok ER (dmaCell c sx0) 0 () ∗ dutyTok ER (dmaCell c sx1) 0 () ∗ dutyTok ER (dmaCell c sp) 0 ())

theorem toks_eq : bigSep allToks (fun x => (dutyTok ER x.1 x.2.1 x.2.2 : sProp 𝕄)) = bigSep Finset.univ fun c : Dev nD => ownToks c := by
  rw [bigSep_map, bigSep_univ_prod]
  exact bigSep_congr fun c _ => bigSep_univ_eq_bigSepL [(0 : Fin 9), 1, 2, 3, 4, 5, 6, 7, 8] (by decide) (by decide) _

/-- The tokens of the cells that the neighbour pays, handed to it. -/
theorem toks_around : (bigSep Finset.univ fun c : Dev nD => (ownToks c : sProp 𝕄)) ⊢ bigSep Finset.univ fun c : Dev nD => toks c := by
  unfold ownToks toks
  simp only [bigSep_sep']
  rw [bigSep_univ_equiv pairing (fun c : Dev nD => (dutyTok ER (barCell c) 0 () : sProp 𝕄)),
    bigSep_univ_equiv pairing (fun c : Dev nD => (dutyTok ER (dmaCell c rk) 0 () : sProp 𝕄)),
    bigSep_univ_equiv pairing (fun c : Dev nD => (dutyTok ER (dmaCell c rx0) 0 () : sProp 𝕄)),
    bigSep_univ_equiv pairing (fun c : Dev nD => (dutyTok ER (dmaCell c rx1) 0 () : sProp 𝕄)),
    bigSep_univ_equiv pairing (fun c : Dev nD => (dutyTok ER (dmaCell c rp) 0 () : sProp 𝕄))]
  exact BI.Entails.refl _

/-! ## The launch credit -/

/-- The units of a neighbour's cell that a device owes at launch. -/
def dueOf (s : SemLoc sig) : ℕ :=
  (if s = .dma rp then NP else 0) + (if s = .dma rx1 then NX1 else 0) + (if s = .dma rx0 then NX0 else 0) + (if s = .dma rk then NK else 0)
    + (if s = .reg barS then 1 else 0)

theorem dueOf_bar : dueOf (.reg barS) = 1 := by
  unfold dueOf; rw [if_neg (by decide), if_neg (by decide), if_neg (by decide), if_neg (by decide), if_pos rfl]
theorem dueOf_rk : dueOf (.dma rk) = NK := by
  unfold dueOf; rw [if_neg (by decide), if_neg (by decide), if_neg (by decide), if_pos rfl, if_neg (by decide)]; simp only [Nat.zero_add, Nat.add_zero]
theorem dueOf_rx0 : dueOf (.dma rx0) = NX0 := by
  unfold dueOf; rw [if_neg (by decide), if_neg (by decide), if_pos rfl, if_neg (by decide), if_neg (by decide)]; simp only [Nat.zero_add, Nat.add_zero]
theorem dueOf_rx1 : dueOf (.dma rx1) = NX1 := by
  unfold dueOf; rw [if_neg (by decide), if_pos rfl, if_neg (by decide), if_neg (by decide), if_neg (by decide)]; simp only [Nat.zero_add, Nat.add_zero]
theorem dueOf_rp : dueOf (.dma rp) = NP := by
  unfold dueOf; rw [if_pos rfl, if_neg (by decide), if_neg (by decide), if_neg (by decide), if_neg (by decide)]; simp only [Nat.add_zero]

theorem tally_pr (d c : Dev nD) (s s' : SemLoc sig) (n : ℕ) :
    tallyAt ((pr d : Thread nD τ), s') () n ((c : Thread nD τ), s) () = if d = pr c ∧ s = s' then n else 0 := by
  rw [tallyAt_apply]
  by_cases h : d = pr c ∧ s = s'
  · obtain ⟨rfl, rfl⟩ := h; rw [pr_pr, if_pos ⟨rfl, rfl⟩, if_pos ⟨rfl, rfl⟩]
  · rw [if_neg h, if_neg]
    rintro ⟨h1, -⟩
    refine h ⟨?_, congrArg Prod.snd h1⟩
    rw [← pr_pr d]; exact congrArg pr (congrArg (fun g : GSem nD τ sig => g.1.1) h1).symm

theorem owed_at (d c : Dev nD) (s : SemLoc sig) : O₀ d ((c : Thread nD τ), s) () = if d = pr c then dueOf s else 0 := by
  unfold O₀
  simp only [Pi.add_apply, Finsupp.add_apply]
  rw [tally_pr, tally_pr, tally_pr, tally_pr, tally_pr]
  by_cases h : d = pr c
  · simp only [h, true_and, if_true]
    rfl
  · simp [h]

theorem launch_at (c : Dev nD) (s : SemLoc sig) :
    tallyOn ((c : Thread nD τ), s) (launchCredit (Pipeline.owing O₀) 0 ((c : Thread nD τ), s))
      = (tallyAt ((c : Thread nD τ), s) () (dueOf s) : CellTallies nD τ sig Unit) := by
  unfold tallyAt; refine congrArg _ (Finsupp.ext fun u => ?_); cases u
  rw [Pipeline.launchCredit_owing, Finsupp.single_eq_same, Finset.sum_congr rfl fun d _ => owed_at d c s, Finset.sum_ite_eq' Finset.univ (pr c) fun _ => dueOf s,
    if_pos (Finset.mem_univ _)]

theorem creds_intro (c : Dev nD) : (Pipeline.launchCred O₀ c : sProp 𝕄) ⊢ creds c := by
  unfold Pipeline.launchCred
  have hs : bigSep (Finset.univ : Finset (SemLoc sig)) (fun s => (cred (tallyOn ((c : Thread nD τ), s) (launchCredit (Pipeline.owing O₀) 0 ((c : Thread nD τ), s))) : sProp 𝕄))
      ⊢ bigSep ({.reg barS, .dma rk, .dma rx0, .dma rx1, .dma rp} : Finset (SemLoc sig)) (fun s => (cred (tallyAt ((c : Thread nD τ), s) () (dueOf s)) : sProp 𝕄)) := by
    refine (bigSep_subset (Finset.subset_univ ({.reg barS, .dma rk, .dma rx0, .dma rx1, .dma rp} : Finset (SemLoc sig)))).trans ?_
    exact Entails.of_eq (bigSep_congr fun s _ => by rw [launch_at])
  refine hs.trans (Entails.of_eq ?_)
  rw [bigSep_insert (by decide), bigSep_insert (by decide), bigSep_insert (by decide), bigSep_insert (by decide), bigSep_singleton,
    dueOf_bar, dueOf_rk, dueOf_rx0, dueOf_rx1, dueOf_rp]
  rfl

/-! ## The run -/

theorem unscopedSems_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

theorem unscoped_bar : ∀ sm : SemLoc sig, sm.isScoped .tc = false → sm = .reg barS := by decide

abbrev T₀ (c : Dev nD) : sProp 𝕄 := iprop(StableHlo.held (c : Thread nD τ) (Pipeline.ucRefs τ sig) (V0 m c) ∗ riding m 0 c)
abbrev Tₙ (c : Dev nD) : sProp 𝕄 := iprop(StableHlo.held (c : Thread nD τ) (Pipeline.ucRefs τ sig) (VE m c) ∗ semVal (barCell c) 0)

def bundle (c : Dev nD) : sProp 𝕄 :=
  iprop(StableHlo.held (c : Thread nD τ) (Pipeline.ucRefs τ sig) (V0 m c) ∗ creds c ∗ owes (c : Thread nD τ) (O₀ c) ∅ ∗ ∃ r, prngReg c r)

theorem T₀_intro (κ : GSem nD τ sig → ℕ) (c : Dev nD) : iprop(records m κ ∗ (linear c ∗ bundle m c)) ⊢ T₀ m c := by
  unfold bundle T₀ riding Tk
  rw [if_pos rfl]
  iintro ⟨#HR, Hl, Hh, Hc, HO, Hp⟩
  isplitl [Hh]; · iexact Hh
  isplitl [Hl Hc]
  · isplitl [Hl]
    · iapply (ghost_intro m κ c)
      isplitr; · iexact HR
      iexact Hl
    iexact Hc
  isplitl [Hp]; · iexact Hp
  iexists ∅; iexact HO

theorem split_all (Φ Ψ : Dev nD → sProp 𝕄) : bigSep Finset.univ (fun c => iprop(Φ c ∗ Ψ c)) ⊢ iprop(bigSep Finset.univ Φ ∗ bigSep Finset.univ Ψ) :=
  Entails.of_eq (bigSep_sep' ..)
theorem join_all (Φ Ψ : Dev nD → sProp 𝕄) : iprop(bigSep Finset.univ Φ ∗ bigSep Finset.univ Ψ) ⊢ bigSep Finset.univ (fun c => iprop(Φ c ∗ Ψ c)) :=
  Entails.of_eq (bigSep_sep' ..).symm

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(bundle m c ∗ (semVal (barCell c) 0 ∗ G c)) : sProp 𝕄) := by
    rw [show (unscopedBufs c (fun b => m ((c : Thread nD τ).loc b)) : sProp 𝕄) = StableHlo.held (c : Thread nD τ) (Pipeline.ucRefs τ sig) (V0 m c) from
      Pipeline.unscopedBufs_held c (V0 m c), unscopedSems_eq]
    unfold bundle
    iintro ⟨Hh, Hus, HO, Hcr, Hp, HG⟩
    ihave Hc := (creds_intro (F := F) c) $$ Hcr
    isplitl [Hh Hc HO Hp]
    · isplitl [Hh]; · iexact Hh
      isplitl [Hc]; · iexact Hc
      isplitl [HO]; · iexact HO
      iexists (ρ c); iexact Hp
    isplitl [Hus] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hop : bigSep excCells (fun g => (openTok ER g : sProp 𝕄)) ⊢ bigSep Finset.univ (fun c : Dev nD => closedCells c) :=
    Entails.of_eq (by
      rw [bigSep_map, bigSep_univ_prod]
      exact bigSep_congr fun c _ => bigSep_univ_eq_bigSepL [(0 : Fin 8), 1, 2, 3, 4, 5, 6, 7] (by decide) (by decide) _)
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ (semVal (barCell c) 0 ∗ G c)) : sProp 𝕄) from bigSep_mono fun c _ => hcore c) $$ H
  ihave H2 := (split_all _ _) $$ H'; icases H2 with ⟨HB, H3⟩
  ihave H4 := (split_all _ _) $$ H3; icases H4 with ⟨Hv, HG⟩
  ihave Hu := (Entails.of_eq (bigSep_G (F := F))) $$ HG
  imod (Rounds.fund_launch ER (talk (arrs m)) disjoint_cells (fun g _ h => h) allToks) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(linear c ∗ bundle m c)) fun c _ => T₀_intro m κ c)
  isplitr
  · unfold records
    isplitr; · iexact Hinv
    iexact Hr
  iapply (join_all _ _)
  isplitr [HB]
  · unfold linear
    iapply (join_all _ _); isplitl [Hat]; · iapply hat $$ Hat
    iapply (join_all _ _); isplitl [Hopen]; · iapply hop $$ Hopen
    iapply (toks_around (F := F))
    iapply (Entails.of_eq (toks_eq (F := F))) $$ Htok
  · iexact HB

set_option backward.isDefEq.respectTransparency.types false in
/-- The run: from any memory with zero counters every weakly fair execution terminates, each device's buffers are at the
    exit valuation, and every counter is at zero. -/
theorem run_main : θ_run defs (onTc (τ := τ) (main (F := F))) ⟨m, fun _ => 0, ρ⟩ (fun r =>
    (∀ (c : Dev nD) (b : Ref sig .tc), (Proc.devRef .tc b : DevRef τ sig) ∈ Pipeline.ucRefs τ sig → r.2.mem ((c : Thread nD τ).loc b) = VE m c b)
      ∧ r.2.sem = fun _ => 0) :=
  Pipeline.θ_run_regions_kit_dev_sems (pcfgs (F := F)) adm (pdats m) () cellOf_inj EP defs₀ 𝒱₀ L lv m ρ main
    (segs m 𝒱₀ L lv (riding m) () (pdats m) (reg m))
    (fun c Q => by
      rewrite [main_chain c, Pipeline.Seg.run_eq_chain,
        show (segs m 𝒱₀ L lv (riding m) () (pdats m) (reg m) c).map Pipeline.Seg.prog = [
          StableHlo.seq (hostOps0 c),
          StableHlo.seq hostOps0_1,
          StableHlo.seq hostOps0_2,
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide)
    (O₀ := O₀) (hL := L_of_ne) (G := G) (u₀ := u₀)
    (hu₀ := by
      unfold u₀
      iintro Hu
      ihave H := (ownU_parts _ _) $$ Hu
      icases H with ⟨HP, HX⟩
      imodintro
      isplitl [HP]; · iexact HP
      rw [bigSep_G]; iexact HX)
    (T₀ := T₀ m) (Tₙ := Tₙ m)
    (hch := fun c => ⟨.rfl, .rfl, .rfl, reg_pre m c, (reg_post m c).trans (by
      unfold Tₙ riding
      rw [if_neg (by decide)]
      iintro ⟨Hh, Hb, HO⟩
      isplitl [Hh Hb]
      · isplitl [Hh] <;> iassumption
      iexact HO)⟩)
    (hinit := init m ρ)
    (QY := fun c s => (∀ b : Ref sig .tc, (Proc.devRef .tc b : DevRef τ sig) ∈ Pipeline.ucRefs τ sig → s.mem ((c : Thread nD τ).loc b) = VE m c b)
      ∧ s.sem (barCell c) = 0)
    (hfin := fun c s' => by
      unfold Tₙ StableHlo.held
      iintro ⟨⟨Hh, Hb⟩, HSI⟩
      icombine HSI Hb gives %hb
      ihave Hr := (pointsTo_read_all (Pipeline.ucRefs τ sig) (fun b => ((c : Thread nD τ).1, b)) (VE m c) s') $$ [Hh HSI]
      · isplitl [Hh] <;> iassumption
      icases Hr with ⟨%h, HSI⟩
      imodintro
      isplitr
      · ipureintro; exact ⟨fun b hb => h _ hb, by simpa using hb⟩
      iexact HSI)
    (hQ := fun s h hs => ⟨fun c => (h c).1, sem_eq_zero hs fun c sm hsm => by
      rw [unscoped_bar sm hsm]; exact (h c).2⟩)

end Cert.MoE
-- ==== Proof.Frames.lean ====
/- The frames of the kernel's two programs, off the one run. -/
module

public import proofs.«01_k».proof.Defs
public import proofs.«01_k».proof.Proof.Launch
public import proofs.«01_k».proof.Proof.Gen.Kernel
public import Idealize.ShloMosaic.Lib.Tactic.ProgEq

@[expose] public section

set_option maxRecDepth 16384

noncomputable section

namespace Cert.MoE

open Cert.KernelIdeal Cert.KernelIdeal.Gen

open Idealize.ShloMosaic
open Idealize.ShloMosaic.TcCoe
open Idealize.SL.Sem

variable {F : FTy → Type} [FloatOps F]

/-- The arguments at the end, and the counters. -/
theorem run_args (m : (ℓ : Loc nD τ sig) → Buf (Elt F) ℓ) (ρ : Dev nD → PrngReg) :
    θ_run defs (onTc (τ := τ) (main (F := F))) ⟨m, fun _ => 0, ρ⟩ (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0) :=
  (θ_run defs _ _).mono (fun _ h => ⟨fun c =>
    ⟨(h.1 c main_arg0 (Finset.mem_filter.mpr ⟨StableHlo.devRef_mem_tcRefs main_arg0, by decide⟩)).trans (V4_main_arg0 m (outs m) c),
      (h.1 c main_arg1 (Finset.mem_filter.mpr ⟨StableHlo.devRef_mem_tcRefs main_arg1, by decide⟩)).trans (V4_main_arg1 m (outs m) c),
      (h.1 c main_arg2 (Finset.mem_filter.mpr ⟨StableHlo.devRef_mem_tcRefs main_arg2, by decide⟩)).trans (V4_main_arg2 m (outs m) c),
      (h.1 c main_arg3 (Finset.mem_filter.mpr ⟨StableHlo.devRef_mem_tcRefs main_arg3, by decide⟩)).trans (V4_main_arg3 m (outs m) c)⟩, h.2⟩) (run_main m ρ)

theorem frame_ideal : Cert.quiescent_KernelIdeal := fun m ρ _ => run_args m ρ

/-- The two programs have the same bodies, text for text. -/
theorem defs_same : Cert.Kernel.defs (F := Bits) = Cert.KernelIdeal.defs := by sl_kernel_rfl

theorem frame_kernel : Cert.quiescent_Kernel := fun m ρ _ => by
  have h := run_args (F := Bits) m ρ
  rw [← defs_same] at h
  exact h

end Cert.MoE
-- ==== Proof.Place.lean ====
/- The place of a token in the stable order by key, counted. -/
module

public import Idealize.ShloMosaic.Lib.Pointwise

@[expose] public section

namespace Cert.MoE

open Finset

/-- How many tokens go before token `i`: the smaller keys, and the equal keys further up. -/
def place (κ : Fin 2048 → ℕ) (i : Fin 2048) : ℕ := #{j : Fin 2048 | κ j < κ i ∨ (κ j = κ i ∧ j < i)}

variable (κ : Fin 2048 → ℕ)

theorem place_lt (i : Fin 2048) : place κ i < 2048 := by
  have h : ({j : Fin 2048 | κ j < κ i ∨ (κ j = κ i ∧ j < i)} : Finset (Fin 2048)) ⊂ univ := by
    rw [Finset.ssubset_univ_iff]
    intro h
    have := h ▸ mem_univ i
    simp at this
  simpa [place] using card_lt_card h

theorem place_strict {i j : Fin 2048} (h : κ i < κ j ∨ (κ i = κ j ∧ i < j)) : place κ i < place κ j := by
  apply card_lt_card
  rw [Finset.ssubset_iff_of_subset]
  · exact ⟨i, by simpa using h, by simp⟩
  · intro k hk
    simp only [mem_filter, mem_univ, true_and] at hk ⊢
    omega

theorem place_inj : Function.Injective (place κ) := by
  intro i j h
  by_contra hne
  rcases lt_trichotomy (κ i) (κ j) with hk | hk | hk
  · exact absurd h (place_strict κ (.inl hk)).ne
  · rcases lt_or_gt_of_ne hne with hl | hl
    · exact absurd h (place_strict κ (.inr ⟨hk, hl⟩)).ne
    · exact absurd h (place_strict κ (.inr ⟨hk.symm, hl⟩)).ne'
  · exact absurd h (place_strict κ (.inl hk)).ne'

/-- The places are the rows, each once. -/
noncomputable def order : Fin 2048 ≃ Fin 2048 :=
  Equiv.ofBijective (fun i => ⟨place κ i, place_lt κ i⟩)
    (Finite.injective_iff_bijective.mp fun _ _ h => place_inj κ (congrArg Fin.val h))

theorem order_val (i : Fin 2048) : (order κ i).val = place κ i := rfl

/-- Up to and including token `i`, those with key `l`; and all those with a smaller key than `l`. -/
def upTo (i : Fin 2048) (l : ℕ) : ℕ := #{j : Fin 2048 | j.val ≤ i.val ∧ κ j = l}

theorem upTo_last (l : ℕ) : upTo κ ⟨2047, by decide⟩ l = #{j : Fin 2048 | κ j = l} := by
  unfold upTo
  congr 1
  ext j
  simp only [mem_filter, mem_univ, true_and]
  have := j.isLt
  exact and_iff_right (by show j.val ≤ 2047; omega)

/-- The tokens with a key below `l`, key by key. -/
theorem sum_below (l : Fin 128) : ∑ e : Fin 128, (if e < l then upTo κ ⟨2047, by decide⟩ e.val else 0) = #{j : Fin 2048 | κ j < l.val} := by
  simp only [upTo_last]
  rw [← Finset.sum_filter, ← Finset.card_biUnion]
  · congr 1
    ext j
    simp only [mem_biUnion, mem_filter, mem_univ, true_and]
    constructor
    · rintro ⟨e, he, hj⟩; rw [hj]; exact he
    · intro h
      exact ⟨⟨κ j, h.trans l.isLt⟩, h, rfl⟩
  · intro a _ b _ hab
    rw [Function.onFun, Finset.disjoint_left]
    intro j ha hb
    simp only [mem_filter, mem_univ, true_and] at ha hb
    exact hab (Fin.ext (ha.symm.trans hb))

theorem place_eq (i : Fin 2048) : upTo κ i (κ i) + #{j : Fin 2048 | κ j < κ i} = place κ i + 1 := by
  have h1 : upTo κ i (κ i) = #{j : Fin 2048 | κ j = κ i ∧ j < i} + 1 := by
    have : ({j : Fin 2048 | j.val ≤ i.val ∧ κ j = κ i} : Finset (Fin 2048)) = insert i ({j : Fin 2048 | κ j = κ i ∧ j < i} : Finset (Fin 2048)) := by
      ext j
      simp only [mem_filter, mem_univ, true_and, mem_insert]
      constructor
      · rintro ⟨h, e⟩
        rcases eq_or_lt_of_le (show j ≤ i from h) with h | h
        · exact .inl h
        · exact .inr ⟨e, h⟩
      · rintro (rfl | ⟨e, h⟩)
        · exact ⟨le_refl _, rfl⟩
        · exact ⟨le_of_lt h, e⟩
    rw [upTo, this, card_insert_of_notMem (by simp)]
  have h2 : place κ i = #{j : Fin 2048 | κ j < κ i} + #{j : Fin 2048 | κ j = κ i ∧ j < i} := by
    rw [place, Finset.filter_or, card_union_of_disjoint]
    rw [Finset.disjoint_left]
    intro j a b
    simp only [mem_filter, mem_univ, true_and] at a b
    omega
  omega

/-! ## Counts as extended reals -/

theorem sum_indicator {n : ℕ} (p : Fin n → Prop) [DecidablePred p] : ∑ j : Fin n, (if p j then (1 : EReal) else 0) = ((#{j : Fin n | p j} : ℕ) : EReal) := by
  rw [Finset.sum_boole]

/-- A product with one nonzero entry picks it out. -/
theorem sum_pick {n : ℕ} (i : Fin n) (p : Fin n → Prop) [DecidablePred p] (hp : ∀ j, p j ↔ j = i) (f : Fin n → EReal) :
    ∑ j : Fin n, (if p j then (1 : EReal) else 0) * f j = f i := by
  rw [Finset.sum_eq_single i]
  · rw [if_pos ((hp i).mpr rfl), one_mul]
  · intro j _ hj; rw [if_neg (fun h => hj ((hp j).mp h)), zero_mul]
  · intro h; exact absurd (mem_univ i) h

theorem natCast_sum {n : ℕ} (f : Fin n → ℕ) : ∑ j : Fin n, ((f j : ℕ) : EReal) = ((∑ j : Fin n, f j : ℕ) : EReal) := by
  exact (Nat.cast_sum _ _).symm

end Cert.MoE
-- ==== Proof.Consts.lean ====
/- The numerals of the program's text, and counters, as extended reals. -/
module

public import proofs.«01_k».proof.Proof.Blocks
public import proofs.«01_k».proof.Proof.Place

@[expose] public section

noncomputable section

namespace Cert.MoE

open Idealize.ShloMosaic

theorem num_512 : Ideal.ofBits .f32 0x44000000#32 = ((512 : ℕ) : EReal) := by
  rw [show ((512 : ℕ) : EReal) = ((512 : ℝ) : EReal) by norm_cast]
  simp [Ideal.ofBits, Ideal.ieee, -EReal.coe_mul]; norm_num
theorem num_1024 : Ideal.ofBits .f32 0x44800000#32 = ((1024 : ℕ) : EReal) := by
  rw [show ((1024 : ℕ) : EReal) = ((1024 : ℝ) : EReal) by norm_cast]
  simp [Ideal.ofBits, Ideal.ieee, -EReal.coe_mul]; norm_num
theorem num_1536 : Ideal.ofBits .f32 0x44C00000#32 = ((1536 : ℕ) : EReal) := by
  rw [show ((1536 : ℕ) : EReal) = ((1536 : ℝ) : EReal) by norm_cast]
  simp [Ideal.ofBits, Ideal.ieee, -EReal.coe_mul]; norm_num
theorem num_256 : Ideal.ofBits .f32 0x43800000#32 = ((256 : ℝ) : EReal) := by
  simp [Ideal.ofBits, Ideal.ieee, -EReal.coe_mul]; norm_num
theorem num_256th : Ideal.ofBits .f32 0x3B800000#32 = ((1 / 256 : ℝ) : EReal) := by
  simp [Ideal.ofBits, Ideal.ieee, -EReal.coe_mul]; norm_num
theorem num_b2 : Ideal.ofBits .bf16 0x4000#16 = ((2 : ℕ) : EReal) := by
  rw [show ((2 : ℕ) : EReal) = ((2 : ℝ) : EReal) by norm_cast]
  simp [Ideal.ofBits, Ideal.ieee, -EReal.coe_mul]; norm_num
theorem num_b3 : Ideal.ofBits .bf16 0x4040#16 = ((3 : ℕ) : EReal) := by
  rw [show ((3 : ℕ) : EReal) = ((3 : ℝ) : EReal) by norm_cast]
  simp [Ideal.ofBits, Ideal.ieee, -EReal.coe_mul]; norm_num
theorem num_b4 : Ideal.ofBits .bf16 0x4080#16 = ((4 : ℕ) : EReal) := by
  rw [show ((4 : ℕ) : EReal) = ((4 : ℝ) : EReal) by norm_cast]
  simp [Ideal.ofBits, Ideal.ieee, -EReal.coe_mul]; norm_num
theorem num_b5 : Ideal.ofBits .bf16 0x40A0#16 = ((5 : ℕ) : EReal) := by
  rw [show ((5 : ℕ) : EReal) = ((5 : ℝ) : EReal) by norm_cast]
  simp [Ideal.ofBits, Ideal.ieee, -EReal.coe_mul]; norm_num
theorem num_b6 : Ideal.ofBits .bf16 0x40C0#16 = ((6 : ℕ) : EReal) := by
  rw [show ((6 : ℕ) : EReal) = ((6 : ℝ) : EReal) by norm_cast]
  simp [Ideal.ofBits, Ideal.ieee, -EReal.coe_mul]; norm_num
theorem num_b7 : Ideal.ofBits .bf16 0x40E0#16 = ((7 : ℕ) : EReal) := by
  rw [show ((7 : ℕ) : EReal) = ((7 : ℝ) : EReal) by norm_cast]
  simp [Ideal.ofBits, Ideal.ieee, -EReal.coe_mul]; norm_num

/-- A counter below 4096, converted. -/
theorem sitofp_nat (n : ℕ) (h : n < 4096) : FloatOps.sitofp (F := Ideal) .f32 (BitVec.ofNat 32 n) = ((n : ℕ) : EReal) := by
  have e : (BitVec.ofNat 32 n).toInt = (n : ℤ) := by
    rw [BitVec.toInt_eq_toNat_of_lt (by rw [BitVec.toNat_ofNat]; omega), BitVec.toNat_ofNat]; omega
  show (((BitVec.ofNat 32 n).toInt : ℝ) : EReal) = _
  rw [e]; norm_cast

theorem nat_eq (a b : ℕ) : ((a : ℕ) : EReal) = ((b : ℕ) : EReal) ↔ a = b := Nat.cast_inj
theorem nat_lt (a b : ℕ) : ((a : ℕ) : EReal) < ((b : ℕ) : EReal) ↔ a < b := by norm_cast
theorem nat_le (a b : ℕ) : ((a : ℕ) : EReal) ≤ ((b : ℕ) : EReal) ↔ a ≤ b := by norm_cast
theorem nat_add (a b : ℕ) : ((a : ℕ) : EReal) + ((b : ℕ) : EReal) = ((a + b : ℕ) : EReal) := by norm_cast
theorem nat_real (a : ℕ) : ((a : ℕ) : EReal) = ((a : ℝ) : EReal) := by norm_cast

/-- A count split at 256. -/
theorem high_part (n : ℕ) : Ideal.liftRound Int.floor (((n : ℕ) : EReal) * ((1 / 256 : ℝ) : EReal)) = ((n / 256 : ℕ) : EReal) := by
  rw [nat_real, ← EReal.coe_mul, Ideal.liftRound_coe, nat_real]
  congr 1
  have : ⌊(n : ℝ) * (1 / 256)⌋ = ((n / 256 : ℕ) : ℤ) := by
    rw [Int.floor_eq_iff]
    have h := Nat.div_add_mod n 256
    have hm := Nat.mod_lt n (show 0 < 256 by decide)
    have e : (n : ℝ) = 256 * ((n / 256 : ℕ) : ℝ) + ((n % 256 : ℕ) : ℝ) := by exact_mod_cast h.symm
    have hm' : ((n % 256 : ℕ) : ℝ) < 256 := by exact_mod_cast hm
    have hp : (0 : ℝ) ≤ ((n % 256 : ℕ) : ℝ) := Nat.cast_nonneg _
    rw [Int.cast_natCast]
    constructor <;> linarith
  rw [this]; norm_cast
theorem low_part (n : ℕ) : ((n : ℕ) : EReal) - ((256 : ℝ) : EReal) * ((n / 256 : ℕ) : EReal) = ((n % 256 : ℕ) : EReal) := by
  rw [nat_real, nat_real, nat_real, ← EReal.coe_mul, ← EReal.coe_sub]
  congr 1
  have e : (n : ℝ) = 256 * ((n / 256 : ℕ) : ℝ) + ((n % 256 : ℕ) : ℝ) := by exact_mod_cast (Nat.div_add_mod n 256).symm
  linarith

end Cert.MoE
-- ==== Proof.Rank.lean ====
/- The places that the kernel computes by its products with zero-one matrices are the places counted. -/
module

public import proofs.«01_k».proof.Proof.Consts

@[expose] public section

set_option maxRecDepth 16384

noncomputable section

namespace Cert.MoE

open Cert.KernelIdeal Cert.KernelIdeal.Gen
open Idealize.ShloMosaic

variable (k : Vec Ideal S2048x1 .f32) (κ : Fin 2048 → ℕ)

/-- The keys are the numbers `κ`, below eight. -/
def Keys : Prop := ∀ i : Fin 2048, k (ix2 i 0) = ((κ i : ℕ) : EReal) ∧ κ i < 8

variable {k κ} (hk : Keys k κ)
include hk

theorem hot (i : Fin 2048) (l : Fin 128) : k0_pay3 k (ix2 i l) = if κ i = l.val then (1 : EReal) else 0 := by
  pointwise [k0_pay3, k0_pay1, k0_pay2]
  rw [(hk i).1, sitofp_nat _ (by omega)]
  exact if_congr (nat_eq _ _) rfl rfl

theorem hotb (i : Fin 2048) (l : Fin 128) : k0_pay4 (k0_pay3 k) (ix2 i l) = if κ i = l.val then (1 : EReal) else 0 := by
  pointwise [k0_pay4]
  exact hot hk i l

/-- A sum over the tokens down to `i`. -/
theorem count_rows (i : Fin 2048) (l : Fin 128) (p : Fin 2048 → Prop) [DecidablePred p] (hp : ∀ x, p x ↔ x.val ≤ i.val) :
    ∑ x : Fin 2048, (if p x then (1 : EReal) else 0) * k0_pay4 (k0_pay3 k) (ix2 x l) = ((upTo κ i l.val : ℕ) : EReal) := by
  rw [upTo, ← sum_indicator]
  refine Finset.sum_congr rfl fun x _ => ?_
  rw [hotb hk]
  by_cases h1 : x.val ≤ i.val
  · by_cases h2 : κ x = l.val
    · rw [if_pos ((hp x).mpr h1), if_pos h2, if_pos ⟨h1, h2⟩, one_mul]
    · rw [if_neg h2, if_neg (show ¬ (x.val ≤ i.val ∧ κ x = l.val) from fun h => h2 h.2), mul_zero]
  · rw [if_neg (show ¬ p x from fun h => h1 ((hp x).mp h)), if_neg (show ¬ (x.val ≤ i.val ∧ κ x = l.val) from fun h => h1 h.1), zero_mul]

theorem cum0 (r : Fin 512) (l : Fin 128) : k0_pay6 (k0_pay3 k) (ix2 r l) = ((upTo κ ⟨r.val, by omega⟩ l.val : ℕ) : EReal) := by
  pointwise [k0_pay6, k0_pay5]
  refine count_rows hk ⟨r.val, by omega⟩ l _ fun x => ?_
  rw [sitofp_nat _ (by omega), sitofp_nat _ (by omega)]
  exact nat_le _ _

theorem cum1 (r : Fin 512) (l : Fin 128) : k0_pay7 (k0_pay3 k) (ix2 r l) = ((upTo κ ⟨512 + r.val, by omega⟩ l.val : ℕ) : EReal) := by
  pointwise [k0_pay7, k0_pay5]
  refine count_rows hk ⟨512 + r.val, by omega⟩ l _ fun x => ?_
  rw [sitofp_nat _ (by omega), sitofp_nat _ (by omega), num_512, nat_add]
  exact nat_le _ _

theorem cum2 (r : Fin 512) (l : Fin 128) : k0_pay8 (k0_pay3 k) (ix2 r l) = ((upTo κ ⟨1024 + r.val, by omega⟩ l.val : ℕ) : EReal) := by
  pointwise [k0_pay8, k0_pay5]
  refine count_rows hk ⟨1024 + r.val, by omega⟩ l _ fun x => ?_
  rw [sitofp_nat _ (by omega), sitofp_nat _ (by omega), num_1024, nat_add]
  exact nat_le _ _

theorem cum3 (r : Fin 512) (l : Fin 128) :
    ∑ x : Fin 2048, Scalar.select (k0_pay9 (F := Ideal) (ix2 r x)) ((Scalar.ofBits .f32 0x3F800000#32 : Ideal .f32) * k0_pay4 (k0_pay3 k) (ix2 x l) : EReal) 0
      = ((upTo κ ⟨1536 + r.val, by omega⟩ l.val : ℕ) : EReal) := by
  rw [← count_rows hk ⟨1536 + r.val, by omega⟩ l (fun x => x.val ≤ 1536 + r.val) (fun x => Iff.rfl)]
  refine Finset.sum_congr rfl fun x _ => ?_
  pointwise [k0_pay9, k0_pay5]
  rw [sitofp_nat _ (by omega), sitofp_nat _ (by omega), num_1536, nat_add]
  rw [ite_mul, one_mul, zero_mul]
  exact if_congr (nat_le _ _) rfl rfl

omit hk in
theorem sum_masked {n : ℕ} (f : Fin n → ℕ) (p q : Fin n → Prop) [DecidablePred p] [DecidablePred q] (h : ∀ e, p e ↔ q e) :
    ∑ e : Fin n, ((f e : ℕ) : EReal) * (if p e then 1 else 0) = ((∑ e : Fin n, (if q e then f e else 0) : ℕ) : EReal) := by
  rw [← natCast_sum]
  refine Finset.sum_congr rfl fun e _ => ?_
  by_cases hq : q e
  · rw [if_pos ((h e).mpr hq), if_pos hq, mul_one]
  · rw [if_neg (fun hp => hq ((h e).mp hp)), if_neg hq, mul_zero, Nat.cast_zero]

omit hk in
/-- A count less one, over the reals. -/
theorem close_up (U A B P : ℕ) (h : U + (A * 256 + B) = P + 1) :
    ((U : ℕ) : EReal) + (((A : ℕ) : EReal) * ((256 : ℝ) : EReal) + ((B : ℕ) : EReal)) - 1 = ((P : ℕ) : EReal) := by
  have hr : (U : ℝ) + (A * 256 + B) = P + 1 := by exact_mod_cast h
  rw [nat_real U, nat_real A, nat_real B, nat_real P, show (1 : EReal) = ((1 : ℝ) : EReal) from rfl,
    ← EReal.coe_mul, ← EReal.coe_add, ← EReal.coe_add, ← EReal.coe_sub]
  congr 1
  linarith

theorem rank_of (v25 : FVec Ideal S1x128 .f32) (v32 : FVec Ideal S2048x128 .bf16) (v46 v58 v70 : FVec Ideal S512x128 .f32) (v77 : IVec S512x2048 1) (cst : Ideal .f32)
    (h25 : ∀ l : Fin 128, v25 (ix2 0 l) = ((l.val : ℕ) : EReal))
    (h32 : ∀ (i : Fin 2048) (l : Fin 128), v32 (ix2 i l) = if κ i = l.val then (1 : EReal) else 0)
    (h46 : ∀ (r : Fin 512) (l : Fin 128), v46 (ix2 r l) = ((upTo κ ⟨r.val, by omega⟩ l.val : ℕ) : EReal))
    (h58 : ∀ (r : Fin 512) (l : Fin 128), v58 (ix2 r l) = ((upTo κ ⟨512 + r.val, by omega⟩ l.val : ℕ) : EReal))
    (h70 : ∀ (r : Fin 512) (l : Fin 128), v70 (ix2 r l) = ((upTo κ ⟨1024 + r.val, by omega⟩ l.val : ℕ) : EReal))
    (h82 : ∀ (r : Fin 512) (l : Fin 128), ∑ x : Fin 2048, Scalar.select (v77 (ix2 r x)) (cst * v32 (ix2 x l) : EReal) 0
      = ((upTo κ ⟨1536 + r.val, by omega⟩ l.val : ℕ) : EReal))
    (i : Fin 2048) : k0_pay10 v25 v32 v46 v58 v70 v77 cst (ix2 i 0) = ((place κ i : ℕ) : EReal) := by
  pointwise [k0_pay10]
  simp only [h82, h46, h58, h70, h25, num_256th, num_256, high_part, low_part]
  simp only [h32]
  refine (sum_pick (⟨κ i, by have := (hk i).2; omega⟩ : Fin 128) (fun x => κ i = x.val) (fun j => ⟨fun h => Fin.ext h.symm, fun h => (congrArg Fin.val h).symm⟩) _).trans ?_
  have hc : (if h : i.val < 512 then ((upTo κ ⟨i.val, by omega⟩ (κ i) : ℕ) : EReal)
      else if h : i.val - 512 < 512 then ((upTo κ ⟨512 + (i.val - 512), by omega⟩ (κ i) : ℕ) : EReal)
      else if h : i.val - 512 - 512 < 512 then ((upTo κ ⟨1024 + (i.val - 512 - 512), by omega⟩ (κ i) : ℕ) : EReal)
      else ((upTo κ ⟨1536 + (i.val - 512 - 512 - 512), by omega⟩ (κ i) : ℕ) : EReal)) = ((upTo κ i (κ i) : ℕ) : EReal) := by
    split
    · rfl
    · split
      · congr 3; omega
      · split
        · congr 3; omega
        · congr 3; omega
  rw [hc]
  have hl : ∀ x : Fin 128, (FloatOps.sitofp (F := Ideal) .f32 (BitVec.ofNat 32 x.val) < (((⟨κ i, by have := (hk i).2; omega⟩ : Fin 128).val : ℕ) : EReal)) ↔ x.val < κ i := by
    intro x
    rw [sitofp_nat _ (by omega)]
    exact nat_lt _ _
  refine (congrArg₂ (fun a b : EReal => ((upTo κ i (κ i) : ℕ) : EReal) + (a * ((256 : ℝ) : EReal) + b) - 1)
    (sum_masked (fun x : Fin 128 => upTo κ ⟨2047, by decide⟩ x.val / 256) _ (fun x => x.val < κ i) hl)
    (sum_masked (fun x : Fin 128 => upTo κ ⟨2047, by decide⟩ x.val % 256) _ (fun x => x.val < κ i) hl)).trans ?_
  show ((upTo κ i (κ i) : ℕ) : EReal) + (_ * ((256 : ℝ) : EReal) + _) - 1 = _
  have hs : (∑ x : Fin 128, (if x.val < κ i then upTo κ ⟨2047, by decide⟩ x.val / 256 else 0)) * 256
      + ∑ x : Fin 128, (if x.val < κ i then upTo κ ⟨2047, by decide⟩ x.val % 256 else 0) = Finset.card {j : Fin 2048 | κ j < κ i} := by
    rw [← sum_below κ ⟨κ i, by have := (hk i).2; omega⟩, Finset.sum_mul, ← Finset.sum_add_distrib]
    refine Finset.sum_congr rfl fun x _ => ?_
    show _ = if x.val < κ i then _ else _
    split
    · omega
    · rfl
  exact close_up _ _ _ _ (by rw [hs]; exact place_eq κ i)

theorem rank_eq (i : Fin 2048) : rankV k (ix2 i 0) = ((place κ i : ℕ) : EReal) := by
  unfold rankV
  refine rank_of hk _ _ _ _ _ _ _ ?_ (hotb hk) (cum0 hk) (cum1 hk) (cum2 hk) (cum3 hk) i
  intro l
  pointwise [k0_pay2]
  exact sitofp_nat _ (by omega)

end Cert.MoE
-- ==== Proof.Fit.lean ====
/- What the precondition says of one device's keys: every token's place is among its expert's rows, in both rotations. -/
module

public import proofs.«01_k».proof.Pre_rows_fit_KernelIdeal
public import proofs.«01_k».proof.Proof.Place
public import Idealize.ShloMosaic.Lib.Pointwise
public import Idealize.ShloMosaic.Lib.StableHlo.Predicate

@[expose] public section

set_option maxRecDepth 16384

noncomputable section

namespace Cert.MoE

open Cert.Pre_rows_fit_KernelIdeal
open Idealize.ShloMosaic Idealize.ShloMosaic.StableHlo.Predicate

/-- The first of the 512 rows that the expert with key `e` is given. -/
def lo (e : ℕ) : ℕ := min (256 * e - 128) 1536

/-- Every token's place is among the rows that its expert is given. -/
def Fits (κ : Fin 2048 → ℕ) : Prop := ∀ i, lo (κ i) ≤ place κ i ∧ place κ i < lo (κ i) + 512

/-- A token's expert number moved up by `s`, modulo eight. -/
def turned (a s : BitVec 32) : BitVec 32 := IntOp.andi (IntOp.addi a s) 7#32

theorem turned_lt (a s : BitVec 32) : (turned a s).toNat < 8 := by
  unfold turned IntOp.andi
  rw [BitVec.toNat_and]
  exact lt_of_le_of_lt Nat.and_le_right (by decide)

theorem and_bit (x y : BitVec 1) : IntOp.andi x y = 1#1 ↔ x = 1#1 ∧ y = 1#1 := by
  revert x y; decide
theorem or_bit (x y : BitVec 1) : IntOp.ori x y = 1#1 ↔ x = 1#1 ∨ y = 1#1 := by
  revert x y; decide

/-- A word found between 0 and 7 by the two signed tests is a number below eight. -/
theorem small_word (a : BitVec 32) (h0 : IntOp.cmpi .sge a 0#32 = 1#1) (h8 : IntOp.cmpi .slt a 8#32 = 1#1) : a.toNat < 8 := by
  simp only [IntOp.cmpi, ofBool_eq_one_iff, BitVec.sle, BitVec.slt, decide_eq_true_eq] at h0 h8
  rw [show (0#32 : BitVec 32).toInt = 0 by decide] at h0
  rw [show (8#32 : BitVec 32).toInt = 8 by decide] at h8
  rw [BitVec.toInt_eq_toNat_cond] at h0 h8
  have := a.isLt
  split at h0 <;> omega

/-- The number of tokens before token `i`, as the precondition adds it up. -/
def before (k : Fin 2048 → BitVec 32) (i : Fin 2048) : BitVec 32 :=
  Finset.fold IntOp.addi (0#32) (fun x : Fin 2048 => BitVec.setWidth 32
    (IntOp.ori (IntOp.cmpi .slt (k x) (k i)) (IntOp.andi (IntOp.cmpi .eq (k x) (k i)) (IntOp.cmpi .slt (BitVec.ofNat 32 x.val) (BitVec.ofNat 32 i.val))))) Finset.univ

theorem before_eq (k : Fin 2048 → BitVec 32) (hk : ∀ i, (k i).toNat < 8) (i : Fin 2048) : (before k i).toNat = place (fun x => (k x).toNat) i := by
  have hb : ∀ x : Fin 2048, (IntOp.ori (IntOp.cmpi .slt (k x) (k i)) (IntOp.andi (IntOp.cmpi .eq (k x) (k i)) (IntOp.cmpi .slt (BitVec.ofNat 32 x.val) (BitVec.ofNat 32 i.val)))) = 1#1
      ↔ ((k x).toNat < (k i).toNat ∨ ((k x).toNat = (k i).toNat ∧ x < i)) := by
    intro x
    have h1 := hk x
    have h2 := hk i
    rw [or_bit, and_bit, slt_iff_toNat (by omega) (by omega), cmpi_eq_iff, slt_iff_toNat (by rw [BitVec.toNat_ofNat]; omega) (by rw [BitVec.toNat_ofNat]; omega),
      BitVec.toNat_ofNat, BitVec.toNat_ofNat, Nat.mod_eq_of_lt (by omega), Nat.mod_eq_of_lt (by omega), BitVec.toNat_inj]
    rfl
  have hs : ∑ x : Fin 2048, (BitVec.setWidth 32 (IntOp.ori (IntOp.cmpi .slt (k x) (k i)) (IntOp.andi (IntOp.cmpi .eq (k x) (k i))
      (IntOp.cmpi .slt (BitVec.ofNat 32 x.val) (BitVec.ofNat 32 i.val))))).toNat = place (fun x => (k x).toNat) i := by
    unfold place
    rw [Finset.card_filter]
    refine Finset.sum_congr rfl fun x _ => ?_
    rw [toNat_setWidth_bit]
    exact if_congr (hb x) rfl rfl
  have hl := place_lt (fun x => (k x).toNat) i
  unfold before
  rw [toNat_fold_addi _ _ (by rw [hs]; omega), hs]

/-- The first row, as the precondition computes it. -/
def first (k : BitVec 32) : BitVec 32 := IntOp.minsi (IntOp.maxsi (IntOp.subi (IntOp.muli k 256#32) 128#32) 0#32) 1536#32

theorem first_eq (k : BitVec 32) (hk : k.toNat < 8) : (first k).toNat = lo k.toNat ∧ (IntOp.addi (first k) 512#32).toNat = lo k.toNat + 512 := by
  have e : k = BitVec.ofNat 32 k.toNat := (BitVec.ofNat_toNat 32 k).symm ▸ (BitVec.setWidth_eq k).symm
  generalize k.toNat = n at e hk
  subst e
  interval_cases n <;> decide

theorem lo_lt (e : ℕ) : lo e ≤ 1536 := by unfold lo; omega

/-- The two tests of one rotation. -/
theorem fits_of (k : Fin 2048 → BitVec 32) (hk : ∀ i, (k i).toNat < 8) (i : Fin 2048) (h1 : IntOp.cmpi .sle (first (k i)) (before k i) = 1#1)
    (h2 : IntOp.cmpi .slt (before k i) (IntOp.addi (first (k i)) 512#32) = 1#1) :
    lo (k i).toNat ≤ place (fun x => (k x).toNat) i ∧ place (fun x => (k x).toNat) i < lo (k i).toNat + 512 := by
  obtain ⟨e1, e2⟩ := first_eq (k i) (hk i)
  have e3 := before_eq k hk i
  have hl := place_lt (fun x => (k x).toNat) i
  have hlo := lo_lt (k i).toNat
  rw [sle_iff_toNat (by omega) (by omega), e1, e3] at h1
  rw [slt_iff_toNat (by omega) (by omega), e2, e3] at h2
  exact ⟨h1, h2⟩

variable [Cert.Pre_rows_fit_KernelIdeal.Facts]

theorem pre_at (x : FVec Ideal S2048x1024 .f32) (a : IVec S2048 32) (w1 : FVec Ideal S4x1024x2048 .f32) (w2 : FVec Ideal S4x2048x1024 .f32)
    (h : fn (F := Ideal) x a w1 w2 = fun _ => 1#1) :
    (∀ i : Fin 2048, (a (ix1 i)).toNat < 8) ∧ ∀ s, s = 0#32 ∨ s = 4#32 → Fits (fun i => (turned (a (ix1 i)) s).toNat) := by
  have hi : ∀ i : Fin 2048, (a (ix1 i)).toNat < 8
      ∧ (IntOp.cmpi .sle (first (turned (a (ix1 i)) 0#32)) (before (fun i => turned (a (ix1 i)) 0#32) i) = 1#1
        ∧ IntOp.cmpi .slt (before (fun i => turned (a (ix1 i)) 0#32) i) (IntOp.addi (first (turned (a (ix1 i)) 0#32)) 512#32) = 1#1)
      ∧ (IntOp.cmpi .sle (first (turned (a (ix1 i)) 4#32)) (before (fun i => turned (a (ix1 i)) 4#32) i) = 1#1
        ∧ IntOp.cmpi .slt (before (fun i => turned (a (ix1 i)) 4#32) i) (IntOp.addi (first (turned (a (ix1 i)) 4#32)) 512#32) = 1#1) := by
    intro i
    have hi := congrFun h (ix1 i)
    unfold fn fn_part1 fn_part2 fn_part3 fn_part4 at hi
    dsimp only at hi
    pointwise at hi
    simp only [and_bit] at hi
    obtain ⟨⟨⟨⟨⟨ha, hb⟩, hc⟩, hd⟩, he⟩, hf⟩ := hi
    exact ⟨small_word _ ha hb, ⟨hc, hd⟩, he, hf⟩
  refine ⟨fun i => (hi i).1, ?_⟩
  rintro s (rfl | rfl) i
  · exact fits_of (fun i => turned (a (ix1 i)) 0#32) (fun i => turned_lt _ _) i (hi i).2.1.1 (hi i).2.1.2
  · exact fits_of (fun i => turned (a (ix1 i)) 4#32) (fun i => turned_lt _ _) i (hi i).2.2.1 (hi i).2.2.2

end Cert.MoE
-- ==== Proof.Host.lean ====
/- What the kernel is entered with on each device, read off the arguments, and that its result array is what its body leaves. -/
module

public import proofs.«01_k».proof.Proof.Region
public import proofs.«01_k».proof.Proof.Rank
public import proofs.«01_k».proof.Proof.Fit
public import Idealize.ShloMosaic.Lib.StableHlo.ReadAt
public import Idealize.ShloMosaic.Lib.Tactic
public import Idealize.ShloMosaic.Lib.Pipeline.ValueKit

@[expose] public section

set_option maxRecDepth 16384

noncomputable section

namespace Cert.MoE

open Cert.KernelIdeal Cert.KernelIdeal.Gen
open Idealize.ShloMosaic
open Idealize.ShloMosaic.TcCoe

variable (m : (ℓ : Loc nD τ sig) → Buf (Elt Ideal) ℓ) (c : Dev nD)

/-- Every window's one block is block zero. -/
theorem idx_zero : ∀ t : Fin cfg0.N, win0_0.index t = ![0, 0] ∧ win0_1.index t = ![0, 0] ∧ win0_2.index t = ![0, 0] :=
  (by decide +kernel : ∀ t : Fin grid0.N, _)

/-- The staged blocks are the whole arrays, -/
theorem xv_eq : xv m c = V3 m c main_v11 := by
  blk_ext! [xv, idx_zero t0_0]
theorem kv_eq : kv m c = V3 m c main_v10 := by
  blk_ext! [kv, idx_zero t0_0]

/-- and what the body leaves is the whole result. -/
theorem result_eq : (pdats m 0 c).arrAt 2 (Pipeline.pin (pcfgs (F := Ideal)) adm 0).N = outC m c := by
  refine (dat0 m c).arrAt_eq_of_after_last 2 t0_0 (by decide +kernel) _ fun j => ?_
  blk_simp
  rfl

theorem v11_at (i : Fin 2048) (l : Fin 1024) : V3 m c main_v11 (ix2 i l) = m ((c.tc : Thread nD τ).loc main_arg0) (ix2 i l) := by
  unfold V3 V2 V1 V0
  after_reads_at
theorem v12_at (e : Fin 4) (d : Fin 1024) (j : Fin 2048) : V3 m c main_v12 (ix3 e d j) = m ((c.tc : Thread nD τ).loc main_arg2) (ix3 e d j) := by
  unfold V3 V2 V1 V0
  after_reads_at
theorem v13_at (e : Fin 4) (j : Fin 2048) (d : Fin 1024) : V3 m c main_v13 (ix3 e j d) = m ((c.tc : Thread nD τ).loc main_arg3) (ix3 e j d) := by
  unfold V3 V2 V1 V0
  after_reads_at

/-- The row of the device grid that a device is in, times four: how far its keys are turned. -/
def turn (c : Dev nD) : BitVec 32 := if c.val / 4 % 2 = 0 then 0#32 else 4#32

/-- The key's word, as the host computes it. -/
def keyWord (c : Dev nD) (a : BitVec 32) : BitVec 32 :=
  let D := Scalar.select (IntOp.cmpi .eq (8#32) 0#32) 1#32 (8#32)
  let R := IntOp.remsi ArithUnit.host (IntOp.subi a (IntOp.muli 4#32 (IntOp.remui ArithUnit.host (IntOp.divui ArithUnit.host c.word 4#32) 2#32))) D
  Scalar.select (IntOp.andi (IntOp.cmpi .ne (IntOp.cmpi .slt R 0#32) (IntOp.cmpi .slt D 0#32)) (IntOp.cmpi .ne R 0#32)) (IntOp.addi R D) R

theorem keyWord_eq (a : BitVec 32) (ha : a.toNat < 8) : keyWord c a = turned a (turn c) := by
  have e : a = BitVec.ofNat 32 a.toNat := (BitVec.ofNat_toNat 32 a).symm ▸ (BitVec.setWidth_eq a).symm
  generalize a.toNat = n at e ha
  subst e
  have h : ∀ (c : Dev nD) (n : Fin 8), keyWord c (BitVec.ofNat 32 n.val) = turned (BitVec.ofNat 32 n.val) (turn c) := by
    decide +kernel
  exact h c ⟨n, ha⟩

theorem v10_at (i : Fin 2048) : @Eq EReal (V3 m c main_v10 (ix2 i 0))
    (((keyWord c ((m ((c.tc : Thread nD τ).loc main_arg1) : IVec S2048 32) (ix1 i))).toInt : ℝ) : EReal) := by
  unfold V3 V2 V1 V0
  after_reads_at
  rfl

/-- The keys that a device ranks its tokens by. -/
def keyOf (i : Fin 2048) : ℕ := (turned ((m ((c.tc : Thread nD τ).loc main_arg1) : IVec S2048 32) (ix1 i)) (turn c)).toNat

theorem keys_of (h : ∀ i : Fin 2048, ((m ((c.tc : Thread nD τ).loc main_arg1) : IVec S2048 32) (ix1 i)).toNat < 8) : Keys (kv m c) (keyOf m c) := by
  intro i
  refine ⟨?_, turned_lt _ _⟩
  rw [kv_eq]
  refine (v10_at m c i).trans ?_
  rw [keyWord_eq c _ (h i)]
  unfold keyOf
  have hl := turned_lt ((m ((c.tc : Thread nD τ).loc main_arg1) : IVec S2048 32) (ix1 i)) (turn c)
  generalize turned _ _ = w at hl ⊢
  show ((w.toInt : ℝ) : EReal) = _
  rw [BitVec.toInt_eq_toNat_of_lt (by omega)]
  norm_cast

end Cert.MoE
-- ==== Proof.Windows.lean ====
/- Blocks of rows of a matrix, read and written, at one entry. -/
module

public import proofs.«01_k».proof.Proof.Consts
public import proofs.«01_k».proof.Proof.Blocks

@[expose] public section

set_option maxRecDepth 16384

noncomputable section

namespace Cert.MoE

open Cert.KernelIdeal Cert.KernelIdeal.Gen
open Idealize.ShloMosaic

variable {α : Type} {R b w : ℕ}

/-- A matrix of `R` rows and `w` columns. -/
abbrev Mat (R w : ℕ) : Shape := ⟨2, ![R, w]⟩

/-- Row `i` of the block of rows that begins at row `o`. -/
theorem window_row (G : (Mat R w).Idx → α) (o : ℕ) (h : ∀ a, (![o, 0] : Fin 2 → ℕ) a + (![b, w] : Fin 2 → ℕ) a ≤ (Mat R w).size a) (i : Fin b) (l : Fin w)
    (p : Fin R) (hp : p.val = o + i.val) :
    VecWindow.window (s := Mat R w) G ![o, 0] ![b, w] h (ix2 i l) = G (ix2 p l) := by
  refine congrArg G (funext fun a => Fin.ext ?_)
  fin_cases a
  · show o + 1 * i.val = p.val
    omega
  · show 0 + 1 * l.val = l.val
    omega

/-- A block that agrees entry by entry with a matrix's rows from `o` on is that window. -/
theorem eq_window (G : (Mat R w).Idx → α) (o : ℕ) (h : ∀ a, (![o, 0] : Fin 2 → ℕ) a + (![b, w] : Fin 2 → ℕ) a ≤ (Mat R w).size a) (v : (Mat b w).Idx → α)
    (hb : o + b ≤ R) (hv : ∀ (i : Fin b) (l : Fin w), v (ix2 i l) = G (ix2 ⟨o + i.val, by omega⟩ l)) :
    v = VecWindow.window (s := Mat R w) G ![o, 0] ![b, w] h := by
  funext j
  rw [show j = ix2 (j 0) (j 1) from eq_ix2 j]
  exact (hv _ _).trans (window_row G o h _ _ ⟨o + (j 0).val, by have : (j 0).val < b := (j 0).isLt; omega⟩ rfl).symm

/-- A block of rows put over a matrix, at a row of the block. -/
theorem put_row_in (f : (Mat R w).Idx → α) (o : ℕ) (v : (Mat b w).Idx → α) (p : Fin R) (l : Fin w) (i : Fin b) (hp : p.val = o + i.val) :
    VecWindow.put (s := Mat R w) f ![o, 0] ![b, w] v (ix2 p l) = v (ix2 i l) := by
  have h : ∀ a, (![o, 0] : Fin 2 → ℕ) a ≤ ((ix2 p l : (Mat R w).Idx) a).val ∧ ((ix2 p l : (Mat R w).Idx) a).val < (![o, 0] : Fin 2 → ℕ) a + (![b, w] : Fin 2 → ℕ) a := by
    intro a
    fin_cases a
    · show o ≤ p.val ∧ p.val < o + b
      omega
    · show 0 ≤ l.val ∧ l.val < 0 + w
      omega
  unfold VecWindow.put
  rw [dif_pos h]
  refine congrArg v (funext fun a => Fin.ext ?_)
  fin_cases a
  · show p.val - o = i.val
    omega
  · show l.val - 0 = l.val
    omega

/-- A block of rows put over a matrix, at a row outside the block. -/
theorem put_row_out (f : (Mat R w).Idx → α) (o : ℕ) (v : (Mat b w).Idx → α) (p : Fin R) (l : Fin w) (hp : ¬ (o ≤ p.val ∧ p.val < o + b)) :
    VecWindow.put (s := Mat R w) f ![o, 0] ![b, w] v (ix2 p l) = f (ix2 p l) := by
  unfold VecWindow.put
  rw [dif_neg]
  intro h
  exact hp (h 0)

/-- The weights of one expert. -/
theorem wA_at (f : Vec Ideal S4x1024x2048 .bf16) (o : ℕ) (n : Fin 4) (hn : n.val = o) (h) (d : Fin 1024) (j : Fin 2048) :
    wA f o h (ix3 0 d j) = f (ix3 n d j) := by
  subst hn
  refine congrArg f (funext fun a => Fin.ext ?_)
  fin_cases a
  · show n.val + 1 * 0 = n.val
    omega
  · show 0 + 1 * d.val = d.val
    omega
  · show 0 + 1 * j.val = j.val
    omega
theorem wB_at (f : Vec Ideal S4x2048x1024 .bf16) (o : ℕ) (n : Fin 4) (hn : n.val = o) (h) (j : Fin 2048) (d : Fin 1024) :
    wB f o h (ix3 0 j d) = f (ix3 n j d) := by
  subst hn
  refine congrArg f (funext fun a => Fin.ext ?_)
  fin_cases a
  · show n.val + 1 * 0 = n.val
    omega
  · show 0 + 1 * j.val = j.val
    omega
  · show 0 + 1 * d.val = d.val
    omega

end Cert.MoE
-- ==== Proof.Sorted.lean ====
/- The tokens and keys as the kernel sorts them, and its way back, are the sorted order and its inverse. -/
module

public import proofs.«01_k».proof.Proof.Rank
public import proofs.«01_k».proof.Proof.Windows

@[expose] public section

set_option maxRecDepth 16384

noncomputable section

namespace Cert.MoE

open Cert.KernelIdeal Cert.KernelIdeal.Gen
open Idealize.ShloMosaic

variable {k : Vec Ideal S2048x1 .f32} {κ : Fin 2048 → ℕ} (hk : Keys k κ)
include hk

/-- The token whose place is asked for. -/
theorem rank_is (p : Fin 2048) (c : EReal) (hc : c = ((p.val : ℕ) : EReal)) (j : Fin 2048) : rankV k (ix2 j 0) = c ↔ j = (order κ).symm p := by
  rw [rank_eq hk, hc, nat_eq, ← order_val, Equiv.eq_symm_apply, Fin.ext_iff]

variable (x : Vec Ideal S2048x1024 .bf16)

theorem xs_at (p : Fin 2048) (l : Fin 1024) : xsV x k (ix2 p l) = x (ix2 ((order κ).symm p) l) := by
  suffices h : xsV x k = fun y : (Rows 1024).Idx => x (ix2 ((order κ).symm (y 0)) (y 1)) from congrFun h (ix2 p l)
  unfold xsV
  refine four_eq 1024 _ _ _ _ _ _ ?_ ?_ ?_ ?_
  · refine eq_window (R := 2048) (b := 512) _ 0 _ _ (by decide) fun i l => ?_
    pointwise [k0_pay13, k0_pay12, k0_pay11]
    refine sum_pick _ _ (rank_is hk ⟨i.val, by omega⟩ _ ?_) _
    rw [sitofp_nat _ (by omega)]
  · refine eq_window (R := 2048) (b := 512) _ 512 _ _ (by decide) fun i l => ?_
    pointwise [k0_pay16, k0_pay15]
    refine sum_pick _ _ (rank_is hk ⟨512 + i.val, by omega⟩ _ ?_) _
    rw [sitofp_nat _ (by omega), num_512, nat_add]
  · refine eq_window (R := 2048) (b := 512) _ 1024 _ _ (by decide) fun i l => ?_
    pointwise [k0_pay19, k0_pay18]
    refine sum_pick _ _ (rank_is hk ⟨1024 + i.val, by omega⟩ _ ?_) _
    rw [sitofp_nat _ (by omega), num_1024, nat_add]
  · refine eq_window (R := 2048) (b := 512) _ 1536 _ _ (by decide) fun i l => ?_
    pointwise [k0_pay25, k0_pay24, k0_pay21, k0_pay22, k0_pay23]
    refine sum_pick _ _ (rank_is hk ⟨1536 + i.val, by omega⟩ _ ?_) _
    rw [sitofp_nat _ (by omega), num_1536, nat_add]

omit x in
theorem ks_at (p : Fin 2048) : ksV k (ix2 p 0) = ((κ ((order κ).symm p) : ℕ) : EReal) := by
  suffices h : ksV k = fun y : (Rows 1).Idx => (((κ ((order κ).symm (y 0)) : ℕ) : EReal) : Ideal .bf16) from congrFun h (ix2 p 0)
  unfold ksV
  refine four_eq 1 _ _ _ _ _ _ ?_ ?_ ?_ ?_
  · refine eq_window (R := 2048) (b := 512) _ 0 _ _ (by decide) fun i l => ?_
    obtain rfl : l = 0 := Subsingleton.elim _ _
    pointwise [k0_pay14, k0_pay12, k0_pay11, k0_pay1]
    refine (sum_pick _ _ (rank_is hk ⟨i.val, by omega⟩ _ ?_) _).trans (hk _).1
    rw [sitofp_nat _ (by omega)]
  · refine eq_window (R := 2048) (b := 512) _ 512 _ _ (by decide) fun i l => ?_
    obtain rfl : l = 0 := Subsingleton.elim _ _
    pointwise [k0_pay17, k0_pay15, k0_pay1]
    refine (sum_pick _ _ (rank_is hk ⟨512 + i.val, by omega⟩ _ ?_) _).trans (hk _).1
    rw [sitofp_nat _ (by omega), num_512, nat_add]
  · refine eq_window (R := 2048) (b := 512) _ 1024 _ _ (by decide) fun i l => ?_
    obtain rfl : l = 0 := Subsingleton.elim _ _
    pointwise [k0_pay20, k0_pay18, k0_pay1]
    refine (sum_pick _ _ (rank_is hk ⟨1024 + i.val, by omega⟩ _ ?_) _).trans (hk _).1
    rw [sitofp_nat _ (by omega), num_1024, nat_add]
  · refine eq_window (R := 2048) (b := 512) _ 1536 _ _ (by decide) fun i l => ?_
    obtain rfl : l = 0 := Subsingleton.elim _ _
    pointwise [k0_pay26, k0_pay24, k0_pay21, k0_pay22, k0_pay23, k0_pay1]
    refine (sum_pick _ _ (rank_is hk ⟨1536 + i.val, by omega⟩ _ ?_) _).trans (hk _).1
    rw [sitofp_nat _ (by omega), num_1536, nat_add]

/-- Every token gets back the row at its place. -/
theorem out_at (ob : Vec Ideal S2048x1024 .f32) (i : Fin 2048) (l : Fin 1024) : outV (rankV k) ob (ix2 i l) = ob (ix2 (order κ i) l) := by
  suffices h : outV (rankV k) ob = fun y : (Rows 1024).Idx => ob (ix2 (order κ (y 0)) (y 1)) from congrFun h (ix2 i l)
  have hp : ∀ (i x : Fin 2048) (c d : EReal), c = rankV k (ix2 i 0) → d = ((x.val : ℕ) : EReal) → (c = d ↔ x = order κ i) := by
    intro i x c d hc hd
    rw [hc, hd, rank_eq hk, nat_eq, ← order_val, Fin.ext_iff, eq_comm]
  unfold outV
  refine four_eq 1024 _ _ _ _ _ _ ?_ ?_ ?_ ?_
  · refine eq_window (R := 2048) (b := 512) _ 0 _ _ (by decide) fun i l => ?_
    pointwise [k0_pay52, k0_pay51, k0_pay5]
    refine sum_pick _ _ (fun x => hp ⟨i.val, by omega⟩ x _ _ ?_ (sitofp_nat _ (by omega))) _
    exact window_row (R := 2048) (w := 1) (b := 512) _ 0 _ i 0 _ (Nat.zero_add _ |>.symm)
  · refine eq_window (R := 2048) (b := 512) _ 512 _ _ (by decide) fun i l => ?_
    pointwise [k0_pay53, k0_pay51, k0_pay5]
    refine sum_pick _ _ (fun x => hp ⟨512 + i.val, by omega⟩ x _ _ ?_ (sitofp_nat _ (by omega))) _
    exact window_row (R := 2048) (w := 1) (b := 512) _ 512 _ i 0 _ (rfl)
  · refine eq_window (R := 2048) (b := 512) _ 1024 _ _ (by decide) fun i l => ?_
    pointwise [k0_pay54, k0_pay51, k0_pay5]
    refine sum_pick _ _ (fun x => hp ⟨1024 + i.val, by omega⟩ x _ _ ?_ (sitofp_nat _ (by omega))) _
    exact window_row (R := 2048) (w := 1) (b := 512) _ 1024 _ i 0 _ (rfl)
  · refine eq_window (R := 2048) (b := 512) _ 1536 _ _ (by decide) fun i l => ?_
    pointwise [k0_pay55, k0_pay51, k0_pay5]
    refine sum_pick _ _ (fun x => hp ⟨1536 + i.val, by omega⟩ x _ _ ?_ (sitofp_nat _ (by omega))) _
    exact window_row (R := 2048) (w := 1) (b := 512) _ 1536 _ i 0 _ (rfl)

end Cert.MoE
-- ==== Proof.Experts.lean ====
/- The experts' parts of each row of the sorted result, and what a token gets. -/
module

public import proofs.«01_k».proof.Proof.Sorted
public import proofs.«01_k».proof.Proof.Protocol

@[expose] public section

set_option maxRecDepth 16384

noncomputable section

namespace Cert.MoE

open Cert.KernelIdeal Cert.KernelIdeal.Gen
open Idealize.ShloMosaic

/-- One expert's two products on one row, with the negative entries between them cut to zero. -/
def ffn (row : Fin 1024 → EReal) (a : Fin 1024 → Fin 2048 → EReal) (b : Fin 2048 → Fin 1024 → EReal) (l : Fin 1024) : EReal :=
  ∑ j : Fin 2048, max (∑ d : Fin 1024, row d * a d j) 0 * b j l

/-- Local expert `n` of the weights `w1`, `w2`. -/
def loc (w1 : Vec Ideal S4x1024x2048 .bf16) (w2 : Vec Ideal S4x2048x1024 .bf16) (n : Fin 4) (row : Fin 1024 → EReal) : Fin 1024 → EReal :=
  ffn row (fun d j => w1 (ix3 n d j)) (fun j l => w2 (ix3 n j l))

/-- What is added at row `p` by the expert with key `e`, over the 512 rows from `o`. -/
def part {R : ℕ} (xs : (Mat R 1024).Idx → EReal) (ks : (Mat R 1).Idx → EReal) (w1 : Vec Ideal S4x1024x2048 .bf16) (w2 : Vec Ideal S4x2048x1024 .bf16)
    (n : Fin 4) (o e : ℕ) (p : Fin R) (l : Fin 1024) : EReal :=
  if (o ≤ p.val ∧ p.val < o + 512) ∧ ks (ix2 p 0) = ((e : ℕ) : EReal) then loc w1 w2 n (fun d => xs (ix2 p d)) l else 0

section Step
variable {R : ℕ} (xs : (Mat R 1024).Idx → EReal) (ks : (Mat R 1).Idx → EReal) (w1 : Vec Ideal S4x1024x2048 .bf16) (w2 : Vec Ideal S4x2048x1024 .bf16)

/-- One expert's step: its part is added over its rows and the rest stays. -/
theorem step (f : (Mat R 1024).Idx → EReal) (n : Fin 4) (o e : ℕ) (v : (Mat 512 1024).Idx → EReal)
    (hv : ∀ (i : Fin 512) (l : Fin 1024) (p : Fin R), p.val = o + i.val →
      v (ix2 i l) = f (ix2 p l) + (if ks (ix2 p 0) = ((e : ℕ) : EReal) then loc w1 w2 n (fun d => xs (ix2 p d)) l else 0))
    (p : Fin R) (l : Fin 1024) :
    VecWindow.put (s := Mat R 1024) f ![o, 0] ![512, 1024] v (ix2 p l) = f (ix2 p l) + part xs ks w1 w2 n o e p l := by
  unfold part
  by_cases hp : o ≤ p.val ∧ p.val < o + 512
  · have e1 : p.val = o + (⟨p.val - o, by omega⟩ : Fin 512).val := by show p.val = o + (p.val - o); omega
    rw [put_row_in f o v p l ⟨p.val - o, by omega⟩ e1, hv _ l p e1]
    congr 1
    exact if_congr ⟨fun h => ⟨hp, h⟩, fun h => h.2⟩ rfl rfl
  · rw [put_row_out f o v p l hp, if_neg (fun h => hp h.1), add_zero]

end Step

section Read
variable (o : ℕ) (i : Fin 512)
theorem xW_at (f : Vec Ideal S2048x1024 .bf16) (h) (p : Fin 2048) (hp : p.val = o + i.val) (l : Fin 1024) : xW f o h (ix2 i l) = f (ix2 p l) :=
  window_row (R := 2048) (b := 512) (w := 1024) f o h i l p hp
theorem kW_at (f : Vec Ideal S2048x1 .bf16) (h) (p : Fin 2048) (hp : p.val = o + i.val) : kW f o h (ix2 i 0) = f (ix2 p 0) :=
  window_row (R := 2048) (b := 512) (w := 1) f o h i 0 p hp
theorem oW_at (f : Vec Ideal S2048x1024 .f32) (h) (p : Fin 2048) (hp : p.val = o + i.val) (l : Fin 1024) : oW f o h (ix2 i l) = f (ix2 p l) :=
  window_row (R := 2048) (b := 512) (w := 1024) f o h i l p hp
theorem pxW_at (f : Vec Ideal S1152x1024 .bf16) (h) (p : Fin 1152) (hp : p.val = o + i.val) (l : Fin 1024) : pxW f o h (ix2 i l) = f (ix2 p l) :=
  window_row (R := 1152) (b := 512) (w := 1024) f o h i l p hp
theorem pkW_at (f : Vec Ideal S1152x1 .bf16) (h) (p : Fin 1152) (hp : p.val = o + i.val) : pkW f o h (ix2 i 0) = f (ix2 p 0) :=
  window_row (R := 1152) (b := 512) (w := 1) f o h i 0 p hp
theorem bW_at (f : Vec Ideal S1152x1024 .bf16) (h) (p : Fin 1152) (hp : p.val = o + i.val) (l : Fin 1024) : bW f o h (ix2 i l) = f (ix2 p l) :=
  window_row (R := 1152) (b := 512) (w := 1024) f o h i l p hp
end Read

variable (w1 : Vec Ideal S4x1024x2048 .bf16) (w2 : Vec Ideal S4x2048x1024 .bf16)

section Own
variable (xs : Vec Ideal S2048x1024 .bf16) (ks : Vec Ideal S2048x1 .bf16) (p : Fin 2048) (l : Fin 1024)

theorem ob1_at : ob1 xs ks w1 w2 (ix2 p l) = part xs ks w1 w2 0 0 0 p l := by
  refine (step xs ks w1 w2 (k0_pay27 (F := Ideal)) 0 0 0 _ (fun i l p hp => ?_) p l).trans ?_
  · pointwise [k0_pay32, k0_pay31, k0_pay30, k0_pay29]
    simp only [oW_at 0 i _ _ p hp, kW_at 0 i _ _ p hp, xW_at 0 i _ _ p hp, wA_at _ 0 0 rfl, wB_at _ 0 0 rfl]
    exact congrArg _ (if_congr (by rw [Nat.cast_zero]) rfl rfl)
  · pointwise [k0_pay27]
theorem ob2_at : ob2 xs ks w1 w2 (ix2 p l) = ob1 xs ks w1 w2 (ix2 p l) + part xs ks w1 w2 1 128 1 p l := by
  refine step xs ks w1 w2 (ob1 xs ks w1 w2) 1 128 1 _ (fun i l p hp => ?_) p l
  pointwise [k0_pay36, k0_pay35]
  simp only [oW_at 128 i _ _ p hp, kW_at 128 i _ _ p hp, xW_at 128 i _ _ p hp, wA_at _ 1 1 rfl, wB_at _ 1 1 rfl]
  exact congrArg _ (if_congr (by rw [Nat.cast_one]) rfl rfl)
theorem ob3_at : ob3 xs ks w1 w2 (ix2 p l) = ob2 xs ks w1 w2 (ix2 p l) + part xs ks w1 w2 2 384 2 p l := by
  refine step xs ks w1 w2 (ob2 xs ks w1 w2) 2 384 2 _ (fun i l p hp => ?_) p l
  pointwise [k0_pay40]
  simp only [oW_at 384 i _ _ p hp, kW_at 384 i _ _ p hp, xW_at 384 i _ _ p hp, wA_at _ 2 2 rfl, wB_at _ 2 2 rfl, num_b2]
  exact congrArg _ (if_congr (Iff.rfl) rfl rfl)
theorem ob4_at : ob4 xs ks w1 w2 (ix2 p l) = ob3 xs ks w1 w2 (ix2 p l) + part xs ks w1 w2 3 640 3 p l := by
  refine step xs ks w1 w2 (ob3 xs ks w1 w2) 3 640 3 _ (fun i l p hp => ?_) p l
  pointwise [k0_pay49, k0_pay48, k0_pay46, k0_pay47]
  simp only [oW_at 640 i _ _ p hp, kW_at 640 i _ _ p hp, xW_at 640 i _ _ p hp, wA_at _ 3 3 rfl, wB_at _ 3 3 rfl, num_b3]
  exact congrArg _ (if_congr (Iff.rfl) rfl rfl)

end Own

section Back
variable (px : Vec Ideal S1152x1024 .bf16) (pk : Vec Ideal S1152x1 .bf16) (p : Fin 1152) (l : Fin 1024)

theorem sb1_at : sb1 px pk w1 w2 (ix2 p l) = part px pk w1 w2 0 0 4 p l := by
  refine (step px pk w1 w2 (k0_pay28 (F := Ideal)) 0 0 4 _ (fun i l p hp => ?_) p l).trans ?_
  · pointwise [k0_pay34, k0_pay33]
    simp only [bW_at 0 i _ _ p hp, pkW_at 0 i _ _ p hp, pxW_at 0 i _ _ p hp, wA_at _ 0 0 rfl, wB_at _ 0 0 rfl, num_b4]
    exact congrArg _ (if_congr Iff.rfl rfl rfl)
  · pointwise [k0_pay28]
theorem sb2_at : sb2 px pk w1 w2 (ix2 p l) = sb1 px pk w1 w2 (ix2 p l) + part px pk w1 w2 1 256 5 p l := by
  refine step px pk w1 w2 (sb1 px pk w1 w2) 1 256 5 _ (fun i l p hp => ?_) p l
  pointwise [k0_pay39, k0_pay37, k0_pay38]
  simp only [bW_at 256 i _ _ p hp, pkW_at 256 i _ _ p hp, pxW_at 256 i _ _ p hp, wA_at _ 1 1 rfl, wB_at _ 1 1 rfl, num_b5]
  exact congrArg _ (if_congr Iff.rfl rfl rfl)
theorem sb3_at : sb3 px pk w1 w2 (ix2 p l) = sb2 px pk w1 w2 (ix2 p l) + part px pk w1 w2 2 512 6 p l := by
  refine step px pk w1 w2 (sb2 px pk w1 w2) 2 512 6 _ (fun i l p hp => ?_) p l
  pointwise [k0_pay41]
  simp only [bW_at 512 i _ _ p hp, pkW_at 512 i _ _ p hp, pxW_at 512 i _ _ p hp, wA_at _ 2 2 rfl, wB_at _ 2 2 rfl, num_b6]
  exact congrArg _ (if_congr Iff.rfl rfl rfl)
theorem sbV_at : sbV px pk w1 w2 (ix2 p l) = sb3 px pk w1 w2 (ix2 p l) + part px pk w1 w2 3 640 7 p l := by
  refine step px pk w1 w2 (sb3 px pk w1 w2) 3 640 7 _ (fun i l p hp => ?_) p l
  pointwise [k0_pay45, k0_pay42, k0_pay43, k0_pay44]
  simp only [bW_at 640 i _ _ p hp, pkW_at 640 i _ _ p hp, pxW_at 640 i _ _ p hp, wA_at _ 3 3 rfl, wB_at _ 3 3 rfl, num_b7]
  exact congrArg _ (if_congr Iff.rfl rfl rfl)

end Back

end Cert.MoE
-- ==== Proof.Rows.lean ====
/- What each token gets from the experts of its device and of the neighbour. -/
module

public import proofs.«01_k».proof.Proof.Experts
public import proofs.«01_k».proof.Proof.Fit

@[expose] public section

set_option maxRecDepth 16384

noncomputable section

namespace Cert.MoE

open Cert.KernelIdeal Cert.KernelIdeal.Gen
open Idealize.ShloMosaic

variable {k : Vec Ideal S2048x1 .f32} {κ : Fin 2048 → ℕ} (hk : Keys k κ) (hw : Fits κ) (x : Vec Ideal S2048x1024 .bf16)
  (w1 : Vec Ideal S4x1024x2048 .bf16) (w2 : Vec Ideal S4x2048x1024 .bf16) (i : Fin 2048) (l : Fin 1024)

/-- Token `i`. -/
abbrev tok (x : Vec Ideal S2048x1024 .bf16) (i : Fin 2048) : Fin 1024 → EReal := fun d => x (ix2 i d)

include hk

theorem part_own (n : Fin 4) (o e : ℕ) : part (R := 2048) (xsV x k) (ksV k) w1 w2 n o e (order κ i) l
    = if (o ≤ place κ i ∧ place κ i < o + 512) ∧ κ i = e then loc w1 w2 n (tok x i) l else 0 := by
  unfold part
  refine if_congr (and_congr Iff.rfl ?_) ?_ rfl
  · rw [ks_at hk, Equiv.symm_apply_apply]; exact nat_eq _ _
  · simp only [xs_at hk, Equiv.symm_apply_apply]

theorem part_back (n : Fin 4) (o e : ℕ) (q : Fin 1152) (hq : place κ i = 896 + q.val) :
    part (R := 1152) (tailX (xsV x k)) (tailK (ksV k)) w1 w2 n o e q l
    = if (896 + o ≤ place κ i ∧ place κ i < 896 + o + 512) ∧ κ i = e then loc w1 w2 n (tok x i) l else 0 := by
  have hx : ∀ d : Fin 1024, tailX (xsV x k) (ix2 q d) = x (ix2 i d) := by
    intro d
    refine (window_row (R := 2048) (b := 1152) (w := 1024) (xsV x k) 896 _ q d (order κ i) hq).trans ?_
    rw [xs_at hk, Equiv.symm_apply_apply]
  have hkk : tailK (ksV k) (ix2 q 0) = ((κ i : ℕ) : EReal) := by
    refine (window_row (R := 2048) (b := 1152) (w := 1) (ksV k) 896 _ q 0 (order κ i) hq).trans ?_
    rw [ks_at hk, Equiv.symm_apply_apply]
  unfold part
  refine if_congr (and_congr (by omega) ?_) ?_ rfl
  · rw [hkk]; exact nat_eq _ _
  · simp only [hx]

theorem own_miss (h : 4 ≤ κ i) : ob4 (xsV x k) (ksV k) w1 w2 (ix2 (order κ i) l) = (0 : EReal) := by
  rw [ob4_at, ob3_at, ob2_at, ob1_at, part_own hk, part_own hk, part_own hk, part_own hk,
    if_neg (by omega), if_neg (by omega), if_neg (by omega), if_neg (by omega)]
  simp only [add_zero]

theorem back_miss (h : κ i < 4) (q : Fin 1152) (hq : place κ i = 896 + q.val) :
    sbV (tailX (xsV x k)) (tailK (ksV k)) w1 w2 (ix2 q l) = (0 : EReal) := by
  rw [sbV_at, sb3_at, sb2_at, sb1_at, part_back hk _ _ _ _ _ _ _ _ q hq, part_back hk _ _ _ _ _ _ _ _ q hq, part_back hk _ _ _ _ _ _ _ _ q hq,
    part_back hk _ _ _ _ _ _ _ _ q hq, if_neg (by omega), if_neg (by omega), if_neg (by omega), if_neg (by omega)]
  simp only [add_zero]

include hw

theorem own_hit (n : Fin 4) (hn : κ i = n.val) : ob4 (xsV x k) (ksV k) w1 w2 (ix2 (order κ i) l) = loc w1 w2 n (tok x i) l := by
  have h := hw i
  rw [hn] at h
  rw [ob4_at, ob3_at, ob2_at, ob1_at, part_own hk, part_own hk, part_own hk, part_own hk, hn]
  generalize place κ i = P at h ⊢
  fin_cases n
  · have h : 0 ≤ P ∧ P < 512 := h
    show (if (0 ≤ P ∧ P < 0 + 512) ∧ 0 = 0 then _ else _) + (if (128 ≤ P ∧ P < 128 + 512) ∧ 0 = 1 then _ else _) + (if (384 ≤ P ∧ P < 384 + 512) ∧ 0 = 2 then _ else _)
      + (if (640 ≤ P ∧ P < 640 + 512) ∧ 0 = 3 then _ else _) = _
    rw [if_pos (by omega), if_neg (by omega), if_neg (by omega), if_neg (by omega), add_zero, add_zero, add_zero]
    rfl
  · have h : 128 ≤ P ∧ P < 640 := h
    show (if (0 ≤ P ∧ P < 0 + 512) ∧ 1 = 0 then _ else _) + (if (128 ≤ P ∧ P < 128 + 512) ∧ 1 = 1 then _ else _) + (if (384 ≤ P ∧ P < 384 + 512) ∧ 1 = 2 then _ else _)
      + (if (640 ≤ P ∧ P < 640 + 512) ∧ 1 = 3 then _ else _) = _
    rw [if_neg (by omega), if_pos (by omega), if_neg (by omega), if_neg (by omega), zero_add, add_zero, add_zero]
    rfl
  · have h : 384 ≤ P ∧ P < 896 := h
    show (if (0 ≤ P ∧ P < 0 + 512) ∧ 2 = 0 then _ else _) + (if (128 ≤ P ∧ P < 128 + 512) ∧ 2 = 1 then _ else _) + (if (384 ≤ P ∧ P < 384 + 512) ∧ 2 = 2 then _ else _)
      + (if (640 ≤ P ∧ P < 640 + 512) ∧ 2 = 3 then _ else _) = _
    rw [if_neg (by omega), if_neg (by omega), if_pos (by omega), if_neg (by omega), zero_add, zero_add, add_zero]
    rfl
  · have h : 640 ≤ P ∧ P < 1152 := h
    show (if (0 ≤ P ∧ P < 0 + 512) ∧ 3 = 0 then _ else _) + (if (128 ≤ P ∧ P < 128 + 512) ∧ 3 = 1 then _ else _) + (if (384 ≤ P ∧ P < 384 + 512) ∧ 3 = 2 then _ else _)
      + (if (640 ≤ P ∧ P < 640 + 512) ∧ 3 = 3 then _ else _) = _
    rw [if_neg (by omega), if_neg (by omega), if_neg (by omega), if_pos (by omega), zero_add, zero_add, zero_add]
    rfl

theorem back_hit (n : Fin 4) (hn : κ i = n.val + 4) (q : Fin 1152) (hq : place κ i = 896 + q.val) :
    sbV (tailX (xsV x k)) (tailK (ksV k)) w1 w2 (ix2 q l) = loc w1 w2 n (tok x i) l := by
  have h := hw i
  rw [hn] at h
  rw [sbV_at, sb3_at, sb2_at, sb1_at, part_back hk _ _ _ _ _ _ _ _ q hq, part_back hk _ _ _ _ _ _ _ _ q hq, part_back hk _ _ _ _ _ _ _ _ q hq,
    part_back hk _ _ _ _ _ _ _ _ q hq, hn]
  generalize place κ i = P at h ⊢
  fin_cases n
  · have h : 896 ≤ P ∧ P < 1408 := h
    show (if (896 + 0 ≤ P ∧ P < 896 + 0 + 512) ∧ 0 + 4 = 4 then _ else _) + (if (896 + 256 ≤ P ∧ P < 896 + 256 + 512) ∧ 0 + 4 = 5 then _ else _)
      + (if (896 + 512 ≤ P ∧ P < 896 + 512 + 512) ∧ 0 + 4 = 6 then _ else _) + (if (896 + 640 ≤ P ∧ P < 896 + 640 + 512) ∧ 0 + 4 = 7 then _ else _) = _
    rw [if_pos (by omega), if_neg (by omega), if_neg (by omega), if_neg (by omega), add_zero, add_zero, add_zero]
    rfl
  · have h : 1152 ≤ P ∧ P < 1664 := h
    show (if (896 + 0 ≤ P ∧ P < 896 + 0 + 512) ∧ 1 + 4 = 4 then _ else _) + (if (896 + 256 ≤ P ∧ P < 896 + 256 + 512) ∧ 1 + 4 = 5 then _ else _)
      + (if (896 + 512 ≤ P ∧ P < 896 + 512 + 512) ∧ 1 + 4 = 6 then _ else _) + (if (896 + 640 ≤ P ∧ P < 896 + 640 + 512) ∧ 1 + 4 = 7 then _ else _) = _
    rw [if_neg (by omega), if_pos (by omega), if_neg (by omega), if_neg (by omega), zero_add, add_zero, add_zero]
    rfl
  · have h : 1408 ≤ P ∧ P < 1920 := h
    show (if (896 + 0 ≤ P ∧ P < 896 + 0 + 512) ∧ 2 + 4 = 4 then _ else _) + (if (896 + 256 ≤ P ∧ P < 896 + 256 + 512) ∧ 2 + 4 = 5 then _ else _)
      + (if (896 + 512 ≤ P ∧ P < 896 + 512 + 512) ∧ 2 + 4 = 6 then _ else _) + (if (896 + 640 ≤ P ∧ P < 896 + 640 + 512) ∧ 2 + 4 = 7 then _ else _) = _
    rw [if_neg (by omega), if_neg (by omega), if_pos (by omega), if_neg (by omega), zero_add, zero_add, add_zero]
    rfl
  · have h : 1536 ≤ P ∧ P < 2048 := h
    show (if (896 + 0 ≤ P ∧ P < 896 + 0 + 512) ∧ 3 + 4 = 4 then _ else _) + (if (896 + 256 ≤ P ∧ P < 896 + 256 + 512) ∧ 3 + 4 = 5 then _ else _)
      + (if (896 + 512 ≤ P ∧ P < 896 + 512 + 512) ∧ 3 + 4 = 6 then _ else _) + (if (896 + 640 ≤ P ∧ P < 896 + 640 + 512) ∧ 3 + 4 = 7 then _ else _) = _
    rw [if_neg (by omega), if_neg (by omega), if_neg (by omega), if_pos (by omega), zero_add, zero_add, zero_add]
    rfl

variable (v1 : Vec Ideal S4x1024x2048 .bf16) (v2 : Vec Ideal S4x2048x1024 .bf16)

omit hk hw in
/-- The last 1152 rows have what came back added. -/
theorem obV_in (xs : Vec Ideal S2048x1024 .bf16) (ks : Vec Ideal S2048x1 .bf16) (sb : Vec Ideal S1152x1024 .bf16) (p : Fin 2048) (q : Fin 1152) (hq : p.val = 896 + q.val) :
    obV xs ks w1 w2 sb (ix2 p l) = (ob4 xs ks w1 w2 (ix2 p l) + sb (ix2 q l) : EReal) := by
  refine (put_row_in (R := 2048) (b := 1152) (w := 1024) (ob4 xs ks w1 w2) 896 _ p l q hq).trans ?_
  pointwise [k0_pay50]
  exact congrArg (· + _) (window_row (R := 2048) (b := 1152) (w := 1024) (ob4 xs ks w1 w2) 896 _ q l p hq)

/-- A token of one of this device's experts gets that expert's value. -/
theorem row_own (n : Fin 4) (hn : κ i = n.val) :
    outV (rankV k) (obV (xsV x k) (ksV k) w1 w2 (sbV (tailX (xsV x k)) (tailK (ksV k)) v1 v2)) (ix2 i l) = loc w1 w2 n (tok x i) l := by
  rw [out_at hk]
  by_cases hp : 896 ≤ place κ i
  · have hq : place κ i = 896 + (place κ i - 896) := by omega
    have hlt := place_lt κ i
    rw [obV_in w1 w2 l _ _ _ (order κ i) ⟨place κ i - 896, by omega⟩ hq, own_hit hk hw x w1 w2 i l n hn,
      back_miss hk x v1 v2 i l (by omega) ⟨place κ i - 896, by omega⟩ hq, add_zero]
  · refine (put_row_out (R := 2048) (b := 1152) (w := 1024) (ob4 (xsV x k) (ksV k) w1 w2) 896 _ (order κ i) l (fun h => hp h.1)).trans ?_
    exact own_hit hk hw x w1 w2 i l n hn

/-- A token of one of the neighbour's experts gets that expert's value. -/
theorem row_back (n : Fin 4) (hn : κ i = n.val + 4) :
    outV (rankV k) (obV (xsV x k) (ksV k) w1 w2 (sbV (tailX (xsV x k)) (tailK (ksV k)) v1 v2)) (ix2 i l) = loc v1 v2 n (tok x i) l := by
  rw [out_at hk]
  have hp : 896 ≤ place κ i := by
    have h := hw i
    rw [hn] at h
    refine le_trans ?_ h.1
    show 896 ≤ min (256 * (n.val + 4) - 128) 1536
    omega
  have hq : place κ i = 896 + (place κ i - 896) := by omega
  have hlt := place_lt κ i
  rw [obV_in w1 w2 l _ _ _ (order κ i) ⟨place κ i - 896, by omega⟩ hq, own_miss hk x w1 w2 i l (by omega),
    back_hit hk hw x v1 v2 i l n hn ⟨place κ i - 896, by omega⟩ hq, zero_add]

end Cert.MoE
-- ==== Proof.RefAt.lean ====
/- The reference's result at one entry: the value of the expert that the token names. -/
module

public import proofs.«01_k».proof.Proof.Gen.ReferenceIdeal.Run
public import proofs.«01_k».proof.Proof.Experts

@[expose] public section

set_option maxRecDepth 16384

noncomputable section

namespace Cert.MoE

open Cert.ReferenceIdeal
open Idealize.ShloMosaic Idealize.ShloMosaic.TcCoe

theorem ref_at [Cert.ReferenceIdeal.Facts] (m : (ℓ : Loc nD τ sig) → Buf (Elt Ideal) ℓ) (c : Dev nD) (i : Fin 4096) (l : Fin 1024) (e : Fin 8)
    (he : (m (c.tc.loc main_arg1) : IVec S4096 32) (ix1 i) = BitVec.ofNat 32 e.val) :
    Cert.ReferenceIdeal.Value.res_main_v96 m c (ix2 i l)
      = ffn (fun d => (m (c.tc.loc main_arg0) : FVec Ideal S4096x1024 .f32) (ix2 i d)) (fun d j => (m (c.tc.loc main_arg2) : FVec Ideal S8x1024x2048 .f32) (ix3 e d j))
        (fun j l => (m (c.tc.loc main_arg3) : FVec Ideal S8x2048x1024 .f32) (ix3 e j l)) l := by
  pointwise [Cert.ReferenceIdeal.Value.res_main_v96]
  rw [he]
  unfold ffn
  fin_cases e <;> rfl

end Cert.MoE
-- ==== Proof.Value.lean ====
/- Each device's result is its block of the reference's, wherever the tokens' places are among their experts' rows. -/
module

public import proofs.«01_k».proof.Proof.Host
public import proofs.«01_k».proof.Proof.Rows
public import proofs.«01_k».proof.Proof.RefAt
public import proofs.«01_k».proof.Defs
public import Idealize.ShloMosaic.Lib.Layout

@[expose] public section

set_option maxRecDepth 16384

noncomputable section

namespace Cert.MoE

open Cert.KernelIdeal Cert.KernelIdeal.Gen
open Idealize.ShloMosaic
open Idealize.ShloMosaic.TcCoe

/-- The memories of the two programs' runs. -/
abbrev KMem := (ℓ : Loc Cert.KernelIdeal.nD Cert.KernelIdeal.τ Cert.KernelIdeal.sig) → Buf (Elt Ideal) ℓ
abbrev RMem := (ℓ : Loc Cert.ReferenceIdeal.nD Cert.ReferenceIdeal.τ Cert.ReferenceIdeal.sig) → Buf (Elt Ideal) ℓ

/-- The reference's four arguments. -/
def gx (m' : RMem) : FVec Ideal Cert.ReferenceIdeal.S4096x1024 .f32 := m' (((0 : Dev Cert.ReferenceIdeal.nD).tc : Thread Cert.ReferenceIdeal.nD Cert.ReferenceIdeal.τ).loc Cert.ReferenceIdeal.main_arg0)
def ga (m' : RMem) : IVec Cert.ReferenceIdeal.S4096 32 := m' (((0 : Dev Cert.ReferenceIdeal.nD).tc : Thread Cert.ReferenceIdeal.nD Cert.ReferenceIdeal.τ).loc Cert.ReferenceIdeal.main_arg1)
def gw1 (m' : RMem) : FVec Ideal Cert.ReferenceIdeal.S8x1024x2048 .f32 := m' (((0 : Dev Cert.ReferenceIdeal.nD).tc : Thread Cert.ReferenceIdeal.nD Cert.ReferenceIdeal.τ).loc Cert.ReferenceIdeal.main_arg2)
def gw2 (m' : RMem) : FVec Ideal Cert.ReferenceIdeal.S8x2048x1024 .f32 := m' (((0 : Dev Cert.ReferenceIdeal.nD).tc : Thread Cert.ReferenceIdeal.nD Cert.ReferenceIdeal.τ).loc Cert.ReferenceIdeal.main_arg3)

/-- The row of the device grid that a device is in. -/
def yOf (c : Dev nD) : ℕ := c.val / 4 % 2
theorem yOf_lt (c : Dev nD) : yOf c < 2 := Nat.mod_lt _ (by decide)
theorem yOf_pr (c : Dev nD) : yOf (pr c) = 1 - yOf c := by revert c; decide
theorem lin_eq (c : Dev nD) : Layout.meshLin [2, 2, 4] c.val [1] = yOf c := by revert c; decide

/-- Where a device's token, and its expert, are in the whole. -/
def rowOf (c : Dev nD) (i : Fin 2048) : Fin 4096 := ⟨yOf c * 2048 + i.val, by have := yOf_lt c; omega⟩
def expOf (c : Dev nD) (n : Fin 4) : Fin 8 := ⟨yOf c * 4 + n.val, by have := yOf_lt c; omega⟩

/-- A device's block of a whole array, entry by entry. -/
theorem block_rows {α : Type} (c : Dev nD) (v : (⟨2, ![4096, 1024]⟩ : Shape).Idx → α) (h) (i : Fin 2048) (l : Fin 1024) :
    Layout.blockN ⟨2, ![2048, 1024]⟩ ⟨2, ![4096, 1024]⟩ (Layout.meshBlock [2, 2, 4] ![[1], []] c) v h (ix2 i l) = v (ix2 (rowOf c i) l) := by
  rw [Layout.blockN_apply]
  congr 1
  funext a
  apply Fin.ext
  rw [Layout.TilesN.idx_val, Layout.meshBlock_val]
  match a with
  | ⟨0, _⟩ => show Layout.meshLin [2, 2, 4] c.val [1] * 2048 + i.val = _; rw [lin_eq]; rfl
  | ⟨1, _⟩ => show 0 * 1024 + l.val = _; rw [Nat.zero_mul, Nat.zero_add]; rfl

theorem block_words {α : Type} (c : Dev nD) (v : (⟨1, ![4096]⟩ : Shape).Idx → α) (h) (i : Fin 2048) :
    Layout.blockN ⟨1, ![2048]⟩ ⟨1, ![4096]⟩ (Layout.meshBlock [2, 2, 4] ![[1]] c) v h (ix1 i) = v (ix1 (rowOf c i)) := by
  rw [Layout.blockN_apply]
  congr 1
  funext a
  apply Fin.ext
  rw [Layout.TilesN.idx_val, Layout.meshBlock_val]
  match a with
  | ⟨0, _⟩ => show Layout.meshLin [2, 2, 4] c.val [1] * 2048 + i.val = _; rw [lin_eq]; rfl

theorem block_up {α : Type} (c : Dev nD) (v : (⟨3, ![8, 1024, 2048]⟩ : Shape).Idx → α) (h) (n : Fin 4) (d : Fin 1024) (j : Fin 2048) :
    Layout.blockN ⟨3, ![4, 1024, 2048]⟩ ⟨3, ![8, 1024, 2048]⟩ (Layout.meshBlock [2, 2, 4] ![[1], [], []] c) v h (ix3 n d j) = v (ix3 (expOf c n) d j) := by
  rw [Layout.blockN_apply]
  congr 1
  funext a
  apply Fin.ext
  rw [Layout.TilesN.idx_val, Layout.meshBlock_val]
  match a with
  | ⟨0, _⟩ => show Layout.meshLin [2, 2, 4] c.val [1] * 4 + n.val = _; rw [lin_eq]; rfl
  | ⟨1, _⟩ => show 0 * 1024 + d.val = _; rw [Nat.zero_mul, Nat.zero_add]; rfl
  | ⟨2, _⟩ => show 0 * 2048 + j.val = _; rw [Nat.zero_mul, Nat.zero_add]; rfl

theorem block_down {α : Type} (c : Dev nD) (v : (⟨3, ![8, 2048, 1024]⟩ : Shape).Idx → α) (h) (n : Fin 4) (j : Fin 2048) (l : Fin 1024) :
    Layout.blockN ⟨3, ![4, 2048, 1024]⟩ ⟨3, ![8, 2048, 1024]⟩ (Layout.meshBlock [2, 2, 4] ![[1], [], []] c) v h (ix3 n j l) = v (ix3 (expOf c n) j l) := by
  rw [Layout.blockN_apply]
  congr 1
  funext a
  apply Fin.ext
  rw [Layout.TilesN.idx_val, Layout.meshBlock_val]
  match a with
  | ⟨0, _⟩ => show Layout.meshLin [2, 2, 4] c.val [1] * 4 + n.val = _; rw [lin_eq]; rfl
  | ⟨1, _⟩ => show 0 * 2048 + j.val = _; rw [Nat.zero_mul, Nat.zero_add]; rfl
  | ⟨2, _⟩ => show 0 * 1024 + l.val = _; rw [Nat.zero_mul, Nat.zero_add]; rfl

/-- The devices' arguments are their blocks of the reference's. -/
structure Agree (m : KMem) (m' : RMem) : Prop where
  x : ∀ c i l, (m ((c.tc : Thread nD τ).loc main_arg0) : FVec Ideal S2048x1024 .f32) (ix2 i l) = gx m' (ix2 (rowOf c i) l)
  a : ∀ c i, (m ((c.tc : Thread nD τ).loc main_arg1) : IVec S2048 32) (ix1 i) = ga m' (ix1 (rowOf c i))
  w1 : ∀ c n d j, (m ((c.tc : Thread nD τ).loc main_arg2) : FVec Ideal S4x1024x2048 .f32) (ix3 n d j) = gw1 m' (ix3 (expOf c n) d j)
  w2 : ∀ c n j l, (m ((c.tc : Thread nD τ).loc main_arg3) : FVec Ideal S4x2048x1024 .f32) (ix3 n j l) = gw2 m' (ix3 (expOf c n) j l)

/-- A key below four is an expert of the device itself, any other one of its neighbour's. -/
theorem key_own (a : BitVec 32) (ha : a.toNat < 8) (c : Dev nD) (n : Fin 4) (h : (turned a (turn c)).toNat = n.val) : a.toNat = (expOf c n).val := by
  have e : a = BitVec.ofNat 32 a.toNat := (BitVec.ofNat_toNat 32 a).symm ▸ (BitVec.setWidth_eq a).symm
  generalize a.toNat = k at e ha
  subst e
  have H : ∀ (c : Dev nD) (k : Fin 8) (n : Fin 4), (turned (BitVec.ofNat 32 k.val) (turn c)).toNat = n.val → k.val = (expOf c n).val := by decide +kernel
  exact H c ⟨k, ha⟩ n h
theorem key_other (a : BitVec 32) (ha : a.toNat < 8) (c : Dev nD) (n : Fin 4) (h : (turned a (turn c)).toNat = n.val + 4) : a.toNat = (expOf (pr c) n).val := by
  have e : a = BitVec.ofNat 32 a.toNat := (BitVec.ofNat_toNat 32 a).symm ▸ (BitVec.setWidth_eq a).symm
  generalize a.toNat = k at e ha
  subst e
  have H : ∀ (c : Dev nD) (k : Fin 8) (n : Fin 4), (turned (BitVec.ofNat 32 k.val) (turn c)).toNat = n.val + 4 → k.val = (expOf (pr c) n).val := by decide +kernel
  exact H c ⟨k, ha⟩ n h

variable {m : KMem} {m' : RMem}

/-- What expert `n` of device `d` does to a token of device `c` is what the whole's expert does. -/
theorem loc_eq (hag : Agree m m') (c d : Dev nD) (n : Fin 4) (i : Fin 2048) (l : Fin 1024) :
    loc (w1v m d) (w2v m d) n (tok (xv m c) i) l
      = ffn (fun q => gx m' (ix2 (rowOf c i) q)) (fun q j => gw1 m' (ix3 (expOf d n) q j)) (fun j q => gw2 m' (ix3 (expOf d n) j q)) l := by
  have h1 : tok (xv m c) i = fun q => gx m' (ix2 (rowOf c i) q) := by
    funext q
    unfold tok
    rw [xv_eq]
    exact (v11_at m c i q).trans (hag.x c i q)
  have h2 : (fun q j => (w1v m d : FVec Ideal S4x1024x2048 .bf16) (ix3 n q j) : Fin 1024 → Fin 2048 → EReal) = fun q j => gw1 m' (ix3 (expOf d n) q j) := by
    funext q j
    exact (v12_at m d n q j).trans (hag.w1 d n q j)
  have h3 : (fun j q => (w2v m d : FVec Ideal S4x2048x1024 .bf16) (ix3 n j q) : Fin 2048 → Fin 1024 → EReal) = fun j q => gw2 m' (ix3 (expOf d n) j q) := by
    funext j q
    exact (v13_at m d n j q).trans (hag.w2 d n j q)
  unfold loc
  rw [h1, ← h2, ← h3]

/-- Device `c`'s result at an entry is the reference's. -/
theorem value [Cert.ReferenceIdeal.Facts] (hag : Agree m m') (c : Dev nD)
    (hs : ∀ i : Fin 2048, ((m ((c.tc : Thread nD τ).loc main_arg1) : IVec S2048 32) (ix1 i)).toNat < 8) (hf : Fits (keyOf m c)) (i : Fin 2048) (l : Fin 1024) :
    (outC m c : FVec Ideal S2048x1024 .f32) (ix2 i l) = Cert.ReferenceIdeal.Value.res_main_v96 m' 0 (ix2 (rowOf c i) l) := by
  have hk := keys_of m c hs
  have hw := hag.a c i
  have href : ∀ e : Fin 8, ((m ((c.tc : Thread nD τ).loc main_arg1) : IVec S2048 32) (ix1 i)).toNat = e.val →
      Cert.ReferenceIdeal.Value.res_main_v96 m' 0 (ix2 (rowOf c i) l)
        = ffn (fun q => gx m' (ix2 (rowOf c i) q)) (fun q j => gw1 m' (ix3 e q j)) (fun j q => gw2 m' (ix3 e j q)) l := by
    intro e he
    refine ref_at m' 0 (rowOf c i) l e ?_
    show ga m' (ix1 (rowOf c i)) = _
    rw [← hw, ← he]
    exact (BitVec.ofNat_toNat 32 _).symm ▸ (BitVec.setWidth_eq _).symm
  have hlt : keyOf m c i < 8 := turned_lt _ _
  unfold outC arrs
  dsimp only
  rw [pr_pr]
  by_cases h4 : keyOf m c i < 4
  · rw [row_own hk hf (xv m c) (w1v m c) (w2v m c) i l (w1v m (pr c)) (w2v m (pr c)) ⟨keyOf m c i, h4⟩ rfl, loc_eq hag]
    exact (href _ (key_own _ (hs i) c ⟨keyOf m c i, h4⟩ rfl)).symm
  · have hn : keyOf m c i = (⟨keyOf m c i - 4, by omega⟩ : Fin 4).val + 4 := by show _ = keyOf m c i - 4 + 4; omega
    rw [row_back hk hf (xv m c) (w1v m c) (w2v m c) i l (w1v m (pr c)) (w2v m (pr c)) ⟨keyOf m c i - 4, by omega⟩ hn, loc_eq hag]
    exact (href _ (key_other _ (hs i) c _ hn)).symm

end Cert.MoE
-- ==== Proof.Algebraic.lean ====
/- In exact arithmetic, every device's result is its block of the reference's. -/
module

public import proofs.«01_k».proof.Proof.Value
public import proofs.«01_k».proof.Proof.Frames
public import proofs.«01_k».proof.Proof.Gen.ReferenceIdeal
public import proofs.«01_k».proof.Pre_rows_fit_ReferenceIdeal

@[expose] public section

set_option maxRecDepth 16384

noncomputable section

namespace Cert.MoE

open Idealize.ShloMosaic
open Idealize.ShloMosaic.TcCoe
open Idealize.SL.Sem

/-- What the precondition says of its shapes, for one device's blocks and for the whole arrays. -/
theorem facts_block : Cert.Pre_rows_fit_KernelIdeal.Facts where
  bcast_S_S2048 := by decide
  bcast_S2048_S1x2048_1 := by decide
  bcast_S2048_S2048x1_0 := by decide
  bcast_S1x2048_S2048x2048_0_1 := by decide
  bcast_S2048x1_S2048x2048_0_1 := by decide
  natLt_1_32 := by decide
  reducesTo_S2048x2048_S2048_d1 := by decide
  h_S_ := by decide

theorem facts_whole : Cert.Pre_rows_fit_ReferenceIdeal.Facts where
  bcast_S_S4096 := by decide
  bcast_S4096_S1x4096_1 := by decide
  bcast_S4096_S4096x1_0 := by decide
  bcast_S1x4096_S4096x4096_0_1 := by decide
  bcast_S4096x1_S4096x4096_0_1 := by decide
  natLt_1_32 := by decide
  reducesTo_S4096x4096_S4096_d1 := by decide
  h_S_ := by decide

open Cert.KernelIdeal Cert.KernelIdeal.Gen in
/-- The run with its result read, besides its arguments. -/
theorem run_value (m : KMem) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v14) = outC m c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)) :=
  (θ_run defs _ _).mono (fun _ h c =>
    ⟨(h.1 c main_v14 (Finset.mem_filter.mpr ⟨StableHlo.devRef_mem_tcRefs main_v14, by decide⟩)).trans ((VE_v14 m c).trans (result_eq m c)),
      (h.1 c main_arg0 (Finset.mem_filter.mpr ⟨StableHlo.devRef_mem_tcRefs main_arg0, by decide⟩)).trans (V4_main_arg0 m (outs m) c),
      (h.1 c main_arg1 (Finset.mem_filter.mpr ⟨StableHlo.devRef_mem_tcRefs main_arg1, by decide⟩)).trans (V4_main_arg1 m (outs m) c),
      (h.1 c main_arg2 (Finset.mem_filter.mpr ⟨StableHlo.devRef_mem_tcRefs main_arg2, by decide⟩)).trans (V4_main_arg2 m (outs m) c),
      (h.1 c main_arg3 (Finset.mem_filter.mpr ⟨StableHlo.devRef_mem_tcRefs main_arg3, by decide⟩)).trans (V4_main_arg3 m (outs m) c)⟩) (run_main m ρ)

theorem algebraic : Cert.algebraic_KernelIdeal_ReferenceIdeal_pre_rows_fit_KernelIdeal (hReferenceIdeal := Cert.ReferenceIdeal.Gen.facts)
    (hPre_rows_fit_KernelIdeal := facts_block) := by
  intro m g m' g' hp hag
  have A : Agree m m' :=
    { x := fun c i l => (congrFun (hag c).1 (ix2 i l)).trans (block_rows c (gx m') _ i l)
      a := fun c i => (congrFun (hag c).2.1 (ix1 i)).trans (block_words c (ga m') _ i)
      w1 := fun c n d j => (congrFun (hag c).2.2.1 (ix3 n d j)).trans (block_up c (gw1 m') _ n d j)
      w2 := fun c n j l => (congrFun (hag c).2.2.2 (ix3 n j l)).trans (block_down c (gw2 m') _ n j l) }
  refine ⟨Cert.ReferenceIdeal.Value.res_main_v96 m' 0, ?_, ?_⟩
  · refine (θ_run (Cert.KernelIdeal.defs (F := Ideal)) _ _).mono (fun _ h c => ⟨(h c).1.trans ?_, (h c).2⟩) (run_value m g)
    obtain ⟨h8, hf⟩ := (@pre_at facts_block) _ _ _ _ (hp c)
    funext j
    rw [show j = ix2 (j 0) (j 1) from eq_ix2 j]
    refine (value A c h8 (hf (turn c) (by unfold turn; split <;> simp)) (j 0) (j 1)).trans ?_
    exact (block_rows c (Cert.ReferenceIdeal.Value.res_main_v96 m' 0) (by decide) (j 0) (j 1)).symm
  · exact (θ_run (Cert.ReferenceIdeal.defs (F := Ideal)) _ _).mono (fun _ h => h 0) (Cert.ReferenceIdeal.Value.run (F := Ideal) m' g')

end Cert.MoE
-- ==== Proof.lean ====
/- The claims, put together from the modules beside this one. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The reference's run leaves its arguments alone, and it has no semaphore. -/
theorem frame_reference : Cert.quiescent_ReferenceIdeal (hReferenceIdeal := Cert.ReferenceIdeal.Gen.facts) := fun m ρ _ =>
  (θ_run Cert.ReferenceIdeal.defs _ _).mono
    (fun r h => ⟨fun c => (h c).2, sem_eq_zero_of_no_sems (by decide) r.2⟩) (Cert.ReferenceIdeal.Value.run (F := Ideal) m ρ)

/-- The frames of the two idealized programs hold of every memory, so of those that the precondition holds of. -/
theorem claim : Cert.Claim :=
  ⟨Cert.Kernel.Gen.facts, Cert.KernelIdeal.Gen.facts, Cert.ReferenceIdeal.Gen.facts, Cert.MoE.facts_block, Cert.MoE.facts_whole,
    Cert.MoE.frame_kernel, Cert.MoE.frame_ideal, fun m g _ => Cert.MoE.frame_ideal m g trivial,
    frame_reference, fun m g _ => frame_reference m g trivial, trivial, Cert.MoE.algebraic⟩

end Cert.Proof

end
